-- ==== Defs.lean ====
def Pre_Kernel [hPre_batch_in_graphs : Cert.Pre_batch_in_graphs.Facts] (m : (ℓ : Loc Cert.Kernel.nD Cert.Kernel.τ Cert.Kernel.sig) → Buf (Elt Bits) ℓ) : Prop :=
  ∀ c : Dev Cert.Kernel.nD,
    (Cert.Pre_batch_in_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_batch_in_graphs : Cert.Pre_batch_in_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_batch_in_graphs : Cert.Pre_batch_in_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_batch_in_graphs : Cert.Pre_batch_in_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_batch_in_graphs : Cert.Pre_batch_in_graphs.Facts) (hPre_scores_finite : Cert.Pre_scores_finite.Facts),
    quiescent_Kernel (hKernel := hKernel) (hPre_batch_in_graphs := hPre_batch_in_graphs)
    ∧ quiescent_KernelIdeal (hKernelIdeal := hKernelIdeal) (hPre_batch_in_graphs := hPre_batch_in_graphs)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_batch_in_graphs.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) (main_arg6 : FVec F S128x128 .f32) (main_arg7 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 128#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Pre_scores_finite.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) (main_arg6 : FVec F S128x128 .f32) (main_arg7 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 128#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : FVec F S64x1 .f32 := Host.absf main_arg4
  let main_cst : FVec F S_ .f32 := constant S_ .f32 0x7F800000#32
  let main_v8 : FVec F S64x1 .f32 := broadcastInDim S64x1 ![] bcast_S_S64x1 main_cst
  let main_v9 : IVec S64x1 1 := cmpf .olt main_v7 main_v8
  let main_c_3 : IVec S_ 1 := constantI S_ 1 1#1
  let main_v10 : IVec S_ 1 := (fun x v => Host.reduce IntOp.andi x v reducesTo_S64x1_S_d0_1 h_S_) main_v9 main_c_3
  let main_v11 : IVec S_ 1 := andi main_v6 main_v10
  let main_v12 : FVec F S1 .f32 := Host.absf main_arg5
  let main_cst_4 : FVec F S_ .f32 := constant S_ .f32 0x7F800000#32
  let main_v13 : FVec F S1 .f32 := broadcastInDim S1 ![] bcast_S_S1 main_cst_4
  let main_v14 : IVec S1 1 := cmpf .olt main_v12 main_v13
  let main_c_5 : IVec S_ 1 := constantI S_ 1 1#1
  let main_v15 : IVec S_ 1 := (fun x v => Host.reduce IntOp.andi x v reducesTo_S1_S_d0 h_S_) main_v14 main_c_5
  fn_part1 (F := F) main_v11 main_v15
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S128 : Shape := ⟨1, ![128]⟩
abbrev S50x1x2000 : Shape := ⟨3, ![50, 1, 2000]⟩
abbrev S1x64 : Shape := ⟨2, ![1, 64]⟩
abbrev S1x1 : Shape := ⟨2, ![1, 1]⟩
abbrev S1x128 : Shape := ⟨2, ![1, 128]⟩
abbrev S2000x128 : Shape := ⟨2, ![2000, 128]⟩
abbrev S1x1x2000 : Shape := ⟨3, ![1, 1, 2000]⟩
abbrev S128x1 : Shape := ⟨2, ![128, 1]⟩
abbrev S1x2000 : Shape := ⟨2, ![1, 2000]⟩
abbrev S2000x64 : Shape := ⟨2, ![2000, 64]⟩
abbrev S128x2000 : Shape := ⟨2, ![128, 2000]⟩
abbrev S_ : Shape := ⟨0, ![]⟩
abbrev S1280x80 : Shape := ⟨2, ![1280, 80]⟩
abbrev S1250x80 : Shape := ⟨2, ![1250, 80]⟩
abbrev S40x80 : Shape := ⟨2, ![40, 80]⟩
abbrev S80x128 : Shape := ⟨2, ![80, 128]⟩
abbrev S1x80 : Shape := ⟨2, ![1, 80]⟩
abbrev S80 : Shape := ⟨1, ![80]⟩

abbrev nBuf : Table → Nat
  | .hbm => 20
  | .local .tc .vmem => 14
  | .local .scVector .vmem => 2
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S50x1x2000, .i32⟩
  | .hbm, ⟨9, _⟩ => ⟨S1x64, .f32⟩
  | .hbm, ⟨10, _⟩ => ⟨S1x1, .f32⟩
  | .hbm, ⟨11, _⟩ => ⟨S1x128, .f32⟩
  | .hbm, ⟨12, _⟩ => ⟨S128x128, .f32⟩
  | .hbm, ⟨13, _⟩ => ⟨S_, .i32⟩
  | .hbm, ⟨14, _⟩ => ⟨S1280x80, .i32⟩
  | .hbm, ⟨15, _⟩ => ⟨S1250x80, .i32⟩
  | .hbm, ⟨16, _⟩ => ⟨S_, .i32⟩
  | .hbm, ⟨17, _⟩ => ⟨S1, .i32⟩
  | .hbm, ⟨18, _⟩ => ⟨S1280x80, .i32⟩
  | .hbm, ⟨19, _⟩ => ⟨S100000x128, .f32⟩
  | .local .tc .vmem, ⟨0, _⟩ => ⟨S2000x128, .f32⟩
  | .local .tc .vmem, ⟨1, _⟩ => ⟨S2000x128, .f32⟩
  | .local .tc .vmem, ⟨2, _⟩ => ⟨S1x1x2000, .i32⟩
  | .local .tc .vmem, ⟨3, _⟩ => ⟨S1x1x2000, .i32⟩
  | .local .tc .vmem, ⟨4, _⟩ => ⟨S128x64, .f32⟩
  | .local .tc .vmem, ⟨5, _⟩ => ⟨S1x64, .f32⟩
  | .local .tc .vmem, ⟨6, _⟩ => ⟨S64x1, .f32⟩
  | .local .tc .vmem, ⟨7, _⟩ => ⟨S1x1, .f32⟩
  | .local .tc .vmem, ⟨8, _⟩ => ⟨S128x128, .f32⟩
  | .local .tc .vmem, ⟨9, _⟩ => ⟨S1x128, .f32⟩
  | .local .tc .vmem, ⟨10, _⟩ => ⟨S128x128, .f32⟩
  | .local .tc .vmem, ⟨11, _⟩ => ⟨S128x1, .f32⟩
  | .local .tc .vmem, ⟨12, _⟩ => ⟨S128x1, .f32⟩
  | .local .tc .vmem, ⟨13, _⟩ => ⟨S128x128, .f32⟩
  | .local .scVector .vmem, ⟨0, _⟩ => ⟨S40x80, .i32⟩
  | .local .scVector .vmem, ⟨1, _⟩ => ⟨S80x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v4_scv : Ref sig .scVector := ⟨.hbm, 12, rfl⟩
abbrev main_v8_scv : Ref sig .scVector := ⟨.hbm, 18, rfl⟩
abbrev main_v9_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v57 : BitVec 1 := Scalar.cmpi .eq arg0 c49_i32
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_4_r0 : BitVec 32 := 0#32
  ![v2.toNat, 0]
@[reducible] def k1_t1_loop : Scf.Loop 32 :=
  let c0_i32_1 : BitVec 32 := 0#32
  let c40_i32_2 : BitVec 32 := 40#32
  let v6 : BitVec 32 := Scalar.addi c0_i32_1 c40_i32_2
  let c1_i32 : BitVec 32 := 1#32
  ⟨c0_i32_1, v6, c1_i32⟩
def k1_cond1 (i : grid1.Coords) (k1_t1 : Fin k1_t1_loop.trips) : BitVec 1 :=
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let c40_i32_0 : BitVec 32 := 40#32
  let c0_i32 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.maxsi c0_i32 v3
  let v5 : BitVec 32 := Scalar.minsi c40_i32_0 v4
  let v9 : BitVec 1 := Scalar.cmpi .slt v8 v5
  let v10 : BitVec 32 := Scalar.extui v9
  let c0_i32_6 : BitVec 32 := 0#32
  let v11 : BitVec 1 := Scalar.cmpi .ne v10 c0_i32_6
  v11

def k1_off2 (k1_t1 : Fin k1_t1_loop.trips) : Fin 2 → Nat :=
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let c0_i32_7 : BitVec 32 := 0#32
  ![v8.toNat, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let v12 : BitVec 32 := Scalar.addi v2 v8
  let c80_i32 : BitVec 32 := 80#32
  let v13 : BitVec 32 := Scalar.muli v12 c80_i32
  let c0_i32_13_r1 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S128x128 : Shape := ⟨2, ![128, 128]⟩
abbrev S128 : Shape := ⟨1, ![128]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S1x100000 : Shape := ⟨2, ![1, 100000]⟩
abbrev S128x1 : Shape := ⟨2, ![128, 1]⟩
abbrev S128x100000 : Shape := ⟨2, ![128, 100000]⟩
abbrev S_ : Shape := ⟨0, ![]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S100000x64, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S1x100000, .i32⟩
  | .hbm, ⟨19, _⟩ => ⟨S128, .i32⟩
  | .hbm, ⟨20, _⟩ => ⟨S128x1, .i32⟩
  | .hbm, ⟨21, _⟩ => ⟨S128x100000, .i32⟩
  | .hbm, ⟨22, _⟩ => ⟨S128x100000, .i32⟩
  | .hbm, ⟨23, _⟩ => ⟨S128x100000, .i1⟩
  | .hbm, ⟨24, _⟩ => ⟨S1x100000, .f32⟩
  | .hbm, ⟨25, _⟩ => ⟨S_, .f32⟩
  | .hbm, ⟨26, _⟩ => ⟨S_, .f32⟩
  | .hbm, ⟨27, _⟩ => ⟨S128x100000, .f32⟩
  | .hbm, ⟨28, _⟩ => ⟨S128x100000, .f32⟩
  | .hbm, ⟨29, _⟩ => ⟨S128x100000, .f32⟩
  | .hbm, ⟨30, _⟩ => ⟨S_, .f32⟩
  | .hbm, ⟨31, _⟩ => ⟨S128, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S128, .f32⟩
  | .hbm, ⟨45, _⟩ => ⟨S100000x1, .i32⟩
  | .hbm, ⟨46, _⟩ => ⟨S128, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S128x128, .f32⟩
  | .hbm, ⟨62, _⟩ => ⟨S100000x1, .i32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S128x128, .f32⟩
  | .hbm, ⟨67, _⟩ => ⟨S128x128, .f32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S_, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000x1, .i32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_6 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.KIBase.lean ====
/-
  The set-up of the kernel's launch: its one SparseCore call, its one TensorCore pipeline, the algebra of ghost
  state, and what the TensorCore hands each SparseCore and each tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The launch's configuration -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP; infer_instance

/-! ## The SparseCore call's three buffers -/

abbrev cLoc (d : Dev nD) : Loc nD τ sig := (SparseCore.T d).loc main_v4
abbrev iLoc (d : Dev nD) : Loc nD τ sig := (SparseCore.T d).loc main_v8
abbrev oLoc (d : Dev nD) : Loc nD τ sig := (SparseCore.T d).loc main_v9

/-- What the call finds in its three buffers: the context rows, the padded graph numbers, and whatever the output
    held before. -/
structure Call (F : FTy → Type) where
  cv : S128x128.Idx → Elt F .f32
  iv : S1280x80.Idx → Elt F .i32
  ov : S100000x128.Idx → Elt F .f32
  /-- every padded graph number is a row of the context -/
  ok : ∀ j, (iv j).toNat < 128

/-- The context row that node `x 0` reads. -/
def gRow (iv : S1280x80.Idx → Elt F .i32) (x : S100000x128.Idx) : Fin 128 :=
  ⟨(iv (ValueIdx.ix2 (n0 := 1280) (n1 := 80) ⟨(x 0).val / 80, by have := (x 0).isLt; change _ < 100000 at this; omega⟩
    ⟨(x 0).val % 80, by omega⟩)).toNat % 128, Nat.mod_lt _ (by omega)⟩

/-- The output: at each node the context row of its graph. -/
def gOut (k : Call F) (x : S100000x128.Idx) : Elt F .f32 := k.cv (ValueIdx.ix2 (n0 := 128) (n1 := 128) (gRow k.iv x) (x 1))

/-- Tile `w`'s nodes: 3200 in a row (1250·80 = 100000 in all, the last tile's short). -/
def tSet (w : ℕ) : Finset S100000x128.Idx := Finset.univ.filter fun x => (x 0).val / 3200 = w
/-- SparseCore `c`'s nodes. -/
def cSet (c : ℕ) : Finset S100000x128.Idx := Finset.univ.filter fun x => (x 0).val / 3200 % 2 = c
theorem mem_tSet {w : ℕ} {x : S100000x128.Idx} : x ∈ tSet w ↔ (x 0).val / 3200 = w := by
  simp only [tSet, Finset.mem_filter, Finset.mem_univ, true_and]
theorem mem_cSet {c : ℕ} {x : S100000x128.Idx} : x ∈ cSet c ↔ (x 0).val / 3200 % 2 = c := by
  simp only [cSet, Finset.mem_filter, Finset.mem_univ, true_and]

/-- A core's share of the two inputs, and a tile's. -/
abbrev cq (c : Fin 2) : PosShare TreeShare := ShareLeaves.leaf 1 fullShare c
abbrev tq (c : Fin 2) (i : Fin 16) : PosShare TreeShare := ShareLeaves.leaf 4 (cq c) i
/-- The number of tile `i` of core `c`. -/
abbrev wid (c : Fin 2) (i : Fin 16) : ℕ := 2 * i.val + c.val

/-- A core's part before the call and after it; a tile's the same. -/
abbrev coreRes (k : Dev nD → Call F) (d : Dev nD) (c : Fin 2) (f : S100000x128.Idx → Elt F .f32) : sProp 𝕄 :=
  iprop((cLoc d ↦{cq c} ((k d).cv : Buf (Elt F) (cLoc d))) ∗ (iLoc d ↦{cq c} ((k d).iv : Buf (Elt F) (iLoc d)))
    ∗ (oLoc d ↦[cSet c.val]{fullShare} (f : Buf (Elt F) (oLoc d))))
abbrev tileRes (k : Dev nD → Call F) (d : Dev nD) (c : Fin 2) (i : Fin 16) (f : S100000x128.Idx → Elt F .f32) : sProp 𝕄 :=
  iprop((cLoc d ↦{tq c i} ((k d).cv : Buf (Elt F) (cLoc d))) ∗ (iLoc d ↦{tq c i} ((k d).iv : Buf (Elt F) (iLoc d)))
    ∗ (oLoc d ↦[tSet (wid c i)]{fullShare} (f : Buf (Elt F) (oLoc d))))

variable (k : Dev nD → Call F)

def P : (K (F := F)).Pay (nD := nD) (Val := Elt F) (Name := ℕ) (U := UU) where
  st := fun q d c => match q with | 0 => coreRes k d (Fin.cast nCore_zero c) (k d).ov
  dn := fun q d c => match q with | 0 => coreRes k d (Fin.cast nCore_zero c) (gOut (k d))
  go := fun q d c i => match q with | 0 => tileRes k d (Fin.cast nCore_zero c) (Fin.cast nSub_zero i) (k d).ov
  td := fun q d c i => match q with | 0 => tileRes k d (Fin.cast nCore_zero c) (Fin.cast nSub_zero i) (gOut (k d))
  x := fun _ _ => iprop(emp)

instance P_storable : (P (F := F) k).IsStorable where
  st q d c := match q with
    | 0 => (inferInstance : BI.Storable (upEmb : UEmb _ 𝕄) (coreRes k d (Fin.cast nCore_zero c) (k d).ov))
  dn q d c := match q with
    | 0 => (inferInstance : BI.Storable (upEmb : UEmb _ 𝕄) (coreRes k d (Fin.cast nCore_zero c) (gOut (k d))))
  go q d c i := match q with
    | 0 => (inferInstance : BI.Storable (upEmb : UEmb _ 𝕄) (tileRes k d (Fin.cast nCore_zero c) (Fin.cast nSub_zero i) (k d).ov))
  td q d c i := match q with
    | 0 => (inferInstance : BI.Storable (upEmb : UEmb _ 𝕄) (tileRes k d (Fin.cast nCore_zero c) (Fin.cast nSub_zero i) (gOut (k d))))

end Cert.Proof.KI
end
-- ==== Proof.KITile.lean ====
/-
  One tile of the SparseCore kernel: the fetch of its 40 rows of graph numbers, then the loop whose trip gathers the 80
  context rows one row of numbers names and writes them out. What the tile leaves in its nodes is `gOut`.
-/
module

public import proofs.«01_k».proof.Proof.KIBase

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "cV'" => (Memref.whole Cert.KernelIdeal.main_v4_scv : Memref Cert.KernelIdeal.sig Kind.scVector Space.hbm Cert.KernelIdeal.S128x128 EltTy.f32)
local notation "iV'" => (Memref.whole Cert.KernelIdeal.main_v8_scv : Memref Cert.KernelIdeal.sig Kind.scVector Space.hbm Cert.KernelIdeal.S1280x80 EltTy.i32)
local notation "oV'" => (Memref.whole Cert.KernelIdeal.main_v9_scv : Memref Cert.KernelIdeal.sig Kind.scVector Space.hbm Cert.KernelIdeal.S100000x128 EltTy.f32)
local notation "lV'" => (Memref.whole Cert.KernelIdeal.cc1_scratch0 : Memref Cert.KernelIdeal.sig Kind.scVector Space.vmem Cert.KernelIdeal.S40x80 EltTy.i32)
local notation "rV'" => (Memref.whole Cert.KernelIdeal.cc1_scratch1 : Memref Cert.KernelIdeal.sig Kind.scVector Space.vmem Cert.KernelIdeal.S80x128 EltTy.f32)

/-- Two indices of two coordinates are equal when the coordinates are. -/
theorem ext2 {n0 n1 : ℕ} {p q : (⟨2, ![n0, n1]⟩ : Shape).Idx} (h0 : (p 0).val = (q 0).val) (h1 : (p 1).val = (q 1).val) : p = q := by
  funext a
  match a with
  | 0 => exact Fin.ext h0
  | 1 => exact Fin.ext h1

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)
abbrev wL (L : grid1.Coords) : ℕ := wid (cL L) (jL L)

theorem wL_lt : wL L < 32 := by
  have h0 : (L 0).val < 2 := (L 0).isLt
  have h1 : (L 1).val < 16 := (L 1).isLt
  show 2 * (L 1).val + (L 0).val < 32; omega

theorem trips_eq : k1_t1_loop.trips = 40 := by decide +kernel

/-- The branch is taken exactly for the rows of graph numbers that exist. -/
theorem cond_iff : ∀ (i : grid1.Coords) (t : Fin k1_t1_loop.trips), k1_cond1 i t = 1#1 ↔ 40 * (2 * (i 1).val + (i 0).val) + t.val < 1250 := by
  decide +kernel

/-! ### The memory the body addresses -/

abbrev iRowsK : Memref sig .scVector .hbm S40x80 .i32 :=
  (iV').slice (Rect.unit (s := S1280x80) (k1_off1 L) S40x80.size (k1_off1_inb L)) (fun _ => rfl)
abbrev listK (t : Fin k1_t1_loop.trips) (h : k1_cond1 L t = 1#1) : Memref sig .scVector .vmem S80 .i32 :=
  ((lV').slice (Rect.unit (s := S40x80) (k1_off2 t) S1x80.size (k1_off2_inb L t h)) (fun _ => rfl)).squeeze S80 squeezes_S1x80_S80
abbrev cAllK : Memref sig .scVector .hbm S128x128 .f32 :=
  (cV').slice (Rect.unit (s := S128x128) ![0, 0] S128x128.size inb_S128x128_S128x128_0_0) (fun _ => rfl)
abbrev oBlkK (t : Fin k1_t1_loop.trips) (h : k1_cond1 L t = 1#1) : Memref sig .scVector .hbm S80x128 .f32 :=
  (oV').slice (Rect.unit (s := S100000x128) (k1_off3 L t) S80x128.size (k1_off3_inb L t h)) (fun _ => rfl)

theorem iRowsK_emb (j : S40x80.Idx) :
    (((iRowsK L).view.emb j 0 : Fin _) : ℕ) = 40 * wL L + (j 0).val ∧ (((iRowsK L).view.emb j 1 : Fin _) : ℕ) = (j 1).val := by
  constructor
  · show k1_off1 L 0 + 1 * (j 0).val = 40 * (2 * (L 1).val + (L 0).val) + (j 0).val
    rw [k1_off1_eq]; show 80 * (L 1).val + 40 * (L 0).val + 1 * (j 0).val = _; omega
  · show k1_off1 L 1 + 1 * (j 1).val = (j 1).val
    rw [k1_off1_eq]; show 0 + 1 * (j 1).val = _; omega

theorem oBlkK_emb (t : Fin k1_t1_loop.trips) (h : k1_cond1 L t = 1#1) (j : S80x128.Idx) :
    (((oBlkK L t h).view.emb j 0 : Fin _) : ℕ) = 3200 * wL L + 80 * t.val + (j 0).val ∧ (((oBlkK L t h).view.emb j 1 : Fin _) : ℕ) = (j 1).val := by
  constructor
  · show k1_off3 L t 0 + 1 * (j 0).val = 3200 * (2 * (L 1).val + (L 0).val) + 80 * t.val + (j 0).val
    rw [k1_off3_eq]; show 6400 * (L 1).val + 3200 * (L 0).val + 80 * t.val + 1 * (j 0).val = _; omega
  · show k1_off3 L t 1 + 1 * (j 1).val = (j 1).val
    rw [k1_off3_eq]; show 0 + 1 * (j 1).val = _; omega

theorem cAllK_emb (j : S128x128.Idx) : (cAllK).view.emb j = j := by
  funext a; apply Fin.ext
  match a with
  | 0 => show 0 + 1 * (j 0).val = (j 0).val; omega
  | 1 => show 0 + 1 * (j 1).val = (j 1).val; omega

theorem listK_emb (t : Fin k1_t1_loop.trips) (h : k1_cond1 L t = 1#1) (j : S80.Idx) :
    (((listK L t h).view.emb j 0 : Fin _) : ℕ) = t.val ∧ (((listK L t h).view.emb j 1 : Fin _) : ℕ) = (j 0).val := by
  have hr := Shape.rowMajor_reshapeEquiv (s := S1x80) (s' := S80) squeezes_S1x80_S80.numel_eq j
  set y : S1x80.Idx := Shape.reshapeEquiv squeezes_S1x80_S80.numel_eq j with hy
  have e2 : (S1x80.rowMajor y).val = (y 0).val * 80 + (y 1).val := Shape.rowMajor_val_two y
  have e1 : (S80.rowMajor j).val = (j 0).val := Shape.rowMajor_val_one j
  have h0 : (y 0).val < 1 := (y 0).isLt
  have hj : (y 1).val = (j 0).val := by
    rw [← e1]; omega
  constructor
  · show k1_off2 t 0 + 1 * (y 0).val = t.val
    rw [k1_off2_eq]; show t.val + 1 * (y 0).val = _; omega
  · show k1_off2 t 1 + 1 * (y 1).val = (j 0).val
    rw [k1_off2_eq]; show 0 + 1 * (y 1).val = _; omega

theorem mem_oBlkK (t : Fin k1_t1_loop.trips) (h : k1_cond1 L t = 1#1) (x : S100000x128.Idx) :
    x ∈ (oBlkK L t h).view.set ↔ 3200 * wL L + 80 * t.val ≤ (x 0).val ∧ (x 0).val < 3200 * wL L + 80 * t.val + 80 := by
  refine ValueKit.mem_set_slice_whole_iff main_v9_scv _ x (Rect.mem_set_unit.trans ⟨fun H => ?_, fun H a => ?_⟩)
  · have := H 0
    rw [k1_off3_eq] at this
    change 6400 * (L 1).val + 3200 * (L 0).val + 80 * t.val ≤ (x 0).val ∧ (x 0).val < 6400 * (L 1).val + 3200 * (L 0).val + 80 * t.val + 80 at this
    change 3200 * (2 * (L 1).val + (L 0).val) + 80 * t.val ≤ (x 0).val ∧ (x 0).val < 3200 * (2 * (L 1).val + (L 0).val) + 80 * t.val + 80
    omega
  · change 3200 * (2 * (L 1).val + (L 0).val) + 80 * t.val ≤ (x 0).val ∧ (x 0).val < 3200 * (2 * (L 1).val + (L 0).val) + 80 * t.val + 80 at H
    rw [k1_off3_eq]
    match a with
    | 0 => show 6400 * (L 1).val + 3200 * (L 0).val + 80 * t.val ≤ (x 0).val ∧ (x 0).val < 6400 * (L 1).val + 3200 * (L 0).val + 80 * t.val + 80; omega
    | 1 => have := (x 1).isLt; exact ⟨Nat.zero_le _, by show (x 1).val < 0 + 128; change (x 1).val < 128 at this; omega⟩

theorem oBlkK_sub (t : Fin k1_t1_loop.trips) (h : k1_cond1 L t = 1#1) : (oBlkK L t h).view.set ⊆ tSet (wL L) := by
  intro x hx
  have ht : t.val < 40 := trips_eq ▸ t.isLt
  rw [mem_oBlkK] at hx; rw [mem_tSet]; omega

/-! ### The values -/

variable (k : Call F)

/-- The tile's list: its 40 rows of graph numbers. -/
def lstOf : S40x80.Idx → Elt F .i32 := fun y => k.iv ((iRowsK L).view.emb y)

theorem lstOf_lt (y : S40x80.Idx) : (lstOf L k y).toNat < 128 := k.ok _

theorem hin_of (t : Fin k1_t1_loop.trips) (h : k1_cond1 L t = 1#1) :
    ∀ x, ((listK L t h).view.read (Elt F) (lstOf L k) x).toNat < S128x128.size gathers_S128x128_S80x128.axis := by
  intro x; exact lstOf_lt L k _

/-- Position `p` of an 80-long list is its index of coordinate `p`. -/
theorem symm80 (p : Fin S80.numel) : (((S80).rowMajor.symm p : S80.Idx) 0 : ℕ) = p.val := by
  have e := Shape.rowMajor_val_one (d := ![80]) ((S80).rowMajor.symm p)
  rw [← e]
  exact congrArg Fin.val (Equiv.apply_symm_apply (S80).rowMajor p)

/-- Entry `r` of trip `t`'s list is the graph number of node `3200·w + 80·t + r`. -/
theorem list_idx (t : Fin k1_t1_loop.trips) (h : k1_cond1 L t = 1#1) (p : S80.Idx) (x : S100000x128.Idx)
    (hx : (x 0).val = 3200 * wL L + 80 * t.val + (p 0).val) (a : Fin 1280) (b : Fin 80) (ha : a.val = (x 0).val / 80) (hb : b.val = (x 0).val % 80) :
    (iRowsK L).view.emb ((listK L t h).view.emb p) = ValueIdx.ix2 (n0 := 1280) (n1 := 80) a b := by
  have ht : t.val < 40 := trips_eq ▸ t.isLt
  have hp0 : (p 0).val < 80 := (p 0).isLt
  obtain ⟨l0, l1⟩ := listK_emb L t h p
  obtain ⟨i0, i1⟩ := iRowsK_emb L ((listK L t h).view.emb p)
  have q0 : a.val = 40 * wL L + t.val := by rw [ha, hx]; omega
  have q1 : b.val = (p 0).val := by rw [hb, hx]; omega
  exact ext2 (i0.trans ((congrArg (40 * wL L + ·) l0).trans q0.symm)) (i1.trans (l1.trans q1.symm))

/-- What the gather of trip `t` brings, at node `j 0` of the block, is the output's. -/
theorem gather_val (t : Fin k1_t1_loop.trips) (h : k1_cond1 L t = 1#1)
    (hn : (S80).numel = S80x128.size (gathers_S128x128_S80x128 : S128x128.Gathers 0 S80x128).axis')
    (hin : ∀ x, ((listK L t h).view.read (Elt F) (lstOf L k) x).toNat < S128x128.size (gathers_S128x128_S80x128 : S128x128.Gathers 0 S80x128).axis)
    (j : S80x128.Idx) :
    SparseCore.gatherPayload gathers_S128x128_S80x128 ((cAllK).view.read (Elt F) k.cv)
        (SparseCore.rows ((listK L t h).view.read (Elt F) (lstOf L k)) hn hin) j
      = gOut k ((oBlkK L t h).view.emb j) := by
  obtain ⟨o0, o1⟩ := oBlkK_emb L t h j
  generalize hx : (oBlkK L t h).view.emb j = x at o0 o1
  have hp := symm80 ((j 0).cast hn.symm)
  refine (congrArg k.cv (cAllK_emb _)).trans ?_
  unfold gOut
  refine congrArg k.cv (ext2 ?_ ?_)
  · refine (congrArg Fin.val (Shape.Gathers.idx_axis gathers_S128x128_S80x128 _ j)).trans ?_
    refine (congrArg (fun y => (k.iv y).toNat) (list_idx L t h _ x (o0.trans (congrArg _ hp.symm))
      ⟨(x 0).val / 80, by have := (x 0).isLt; change _ < 100000 at this; omega⟩ ⟨(x 0).val % 80, by omega⟩ rfl rfl)).trans ?_
    exact (Nat.mod_eq_of_lt (k.ok _)).symm
  · exact (Shape.Gathers.idx_of_ne gathers_S128x128_S80x128 _ j 1 (by decide)).trans o1.symm

/-! ### The tile's own semaphores and buffers -/

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The body -/

variable (kf : Dev nD → Call F)

abbrev thr : Thread nD τ := V d (cV L) (jV L)

/-- The loop's invariant before trip `n`: the shares of the inputs, the list, the row buffer, the nodes of the first
    `n` rows written, the two semaphores at zero, the waits recorded so far. -/
def inv (O : CellTallies nD τ sig (HIx 1)) (W : Waits sig (HIx 1)) (n : Nat) (_ : Unit) : sProp 𝕄 :=
  iprop(Transfers.MayWaits (V d (cV L) (jV L)) (default : HIx 1) O
    ∗ ((cV').view.loc (V d (cV L) (jV L)) ↦{tq (cL L) (jL L)} ((kf d).cv : Buf (Elt F) (cLoc d)))
    ∗ ((lV').view.loc (V d (cV L) (jV L)) ↦{fullShare} (lstOf L (kf d) : Buf (Elt F) ((V d (cV L) (jV L)).loc cc1_scratch0)))
    ∗ (∃ fr, (rV').view.loc (V d (cV L) (jV L)) ↦{fullShare} fr)
    ∗ (∃ f : Buf (Elt F) (oLoc d), ⌜∀ x ∈ tSet (wL L), (x 0).val < 3200 * wL L + 80 * n → f x = gOut (kf d) x⌝
        ∗ (oV').view.loc (V d (cV L) (jV L)) ↦[tSet (wL L)]{fullShare} f)
    ∗ semVal (cAcell d (cV L) (jV L)) 0 ∗ semVal (cCcell d (cV L) (jV L)) 0
    ∗ ∃ W', ⌜∀ p ∈ W', p ∈ W ∨ p.2 = none⌝ ∗ owes (V d (cV L) (jV L)) O W')

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp
        ∗ tileRes kf d (cL L) (jL L) (kf d).ov
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_ctx L cV' (Memref.isWhole_whole _) iV' (Memref.isWhole_whole _) oV' (Memref.isWhole_whole _)
            lV' (Memref.isWhole_whole _) rV' (Memref.isWhole_whole _) cc1_scratch2 cc1_scoped0 cc1_scoped1)
          fun _ => iprop(tileRes kf d (cL L) (jL L) (gOut (kf d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_ctx_eq_skeleton]; unfold cc1__gather_ctx_skel
  rw [(K (F := F)).scopedBufs_V hF d (cV L) (jV L), SparseCore.Cfg.scopedSems0_V (Val := Elt F) d (cV L) (jV L), ownSems0_V, ownBufs_V]
  iintro ⟨#Hlv, -, ⟨Hc, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show ((iLoc d ↦{tq (cL L) (jL L)} ((kf d).iv : Buf (Elt F) (iLoc d)) : sProp 𝕄)
    = (iV').view.loc (V d (cV L) (jV L)) ↦{tq (cL L) (jL L)} ((kf d).iv : Buf (Elt F) (iLoc d))) from rfl)) $$ Hi
  ihave Hs' := (Entails.of_eq (show (((V d (cV L) (jV L)).loc cc1_scratch0 ↦{fullShare} fs : sProp 𝕄)
    = (lV').view.loc (V d (cV L) (jV L)) ↦{fullShare} fs) from rfl)) $$ Hs
  sl_exec
  sl_for (inv d L kf O W) $$ [Hmw Hc Hs' Hr Ho HsemA HsemC HO]
  case region =>
    intro t _
    unfold inv
    iintro ⟨Hmw, Hc, Hs, ⟨%fr, Hr⟩, ⟨%f, %hf, Ho⟩, HsemA, HsemC, %W', %hW', HO⟩
    rcases Classical.em (k1_cond1 L t = 1#1) with h | h
    · have hin := hin_of L (kf d) t h
      ihave Ho2 := (pointsTo_split_subset (q := fullShare) (f := f) (S := tSet (wL L)) (oBlkK_sub L t h)).1 $$ Ho
      icases Ho2 with ⟨Hob, Hor⟩
      ihave Hob' := (Entails.of_eq (show ((oLoc d ↦[(oBlkK L t h).view.set]{fullShare} f : sProp 𝕄)
        = (oBlkK L t h).view.loc (V d (cV L) (jV L)) ↦[(oBlkK L t h).view.set]{fullShare} f) from rfl)) $$ Hob
      sl_exec (disch := first | sl_exact h | exact View.amount_pos _ _ (show 0 < S80x128.numel by decide))
      have hw : ∀ j, (oBlkK L t h).view.writes (Elt F) f [⟨Rect.whole S80x128, tile_body.sl.dma0_1 d L kf t fr h hin⟩] ((oBlkK L t h).view.emb j)
          = gOut (kf d) ((oBlkK L t h).view.emb j) := by
        intro j
        refine (congrFun (View.read_writes_whole (oBlkK L t h).view f (tile_body.sl.dma0_1 d L kf t fr h hin)) j).trans ?_
        refine (congrFun (View.read_writes_whole (rV').view fr (tile_body.sl.gather0 d L kf t h hin)) j).trans ?_
        exact gather_val L (kf d) t h _ hin j
      sl_step
      isplitl [Hmw]; · iexact Hmw
      isplitl [Hc]; · iexact Hc
      isplitl [Hs]; · iexact Hs
      isplitl [Hr]; · iexists _; iexact Hr
      isplitl [Hob' Hor]
      · ihave Ho := (pointsTo_join_subset (ℓ := oLoc d) (q := fullShare) (f := f) (oBlkK_sub L t h)) $$ [Hob' Hor]
        · isplitl [Hob']; · iexact Hob'
          iexact Hor
        iexists _; isplitr
        swap; · iexact Ho
        ipureintro; intro x hx hlt
        by_cases hb : x ∈ (oBlkK L t h).view.set
        · rw [Finset.piecewise_eq_of_mem _ _ _ hb]
          obtain ⟨j, -, rfl⟩ := Finset.mem_map.mp hb
          exact hw j
        · rw [Finset.piecewise_eq_of_notMem _ _ _ hb]
          refine hf x hx ?_
          rw [mem_oBlkK] at hb; omega
      isplitl [HsemA]; · iexact HsemA
      isplitl [HsemC]; · iexact HsemC
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    · sl_exec (disch := sl_exact h)
      sl_step
      isplitl [Hmw]; · iexact Hmw
      isplitl [Hc]; · iexact Hc
      isplitl [Hs]; · iexact Hs
      isplitl [Hr]; · iexists _; iexact Hr
      isplitl [Ho]
      · iexists f; isplitr
        swap; · iexact Ho
        ipureintro; intro x hx hlt
        refine hf x hx ?_
        have hc := (cond_iff L t).not.mp h
        have hx0 : (x 0).val < 100000 := (x 0).isLt
        change ¬ 40 * wL L + t.val < 1250 at hc
        omega
      isplitl [HsemA]; · iexact HsemA
      isplitl [HsemC]; · iexact HsemC
      iexists W'; isplitr
      · ipureintro; exact hW'
      · iexact HO
  · unfold inv
    isplitl [Hmw]; · iexact Hmw
    isplitl [Hc]; · iexact Hc
    isplitl [Hs']
    · iapply (Entails.of_eq (congrArg (fun g : Buf (Elt F) ((V d (cV L) (jV L)).loc cc1_scratch0) =>
        ((lV').view.loc (V d (cV L) (jV L)) ↦{fullShare} g : sProp 𝕄)) (View.write_whole_univ (Val := Elt F) cc1_scratch0 fs (lstOf L (kf d)))))
      iexact Hs'
    isplitl [Hr]; · iexists fr; iexact Hr
    isplitl [Ho]
    · iexists _; isplitr
      swap; · iexact Ho
      ipureintro; intro x hx hlt
      rw [mem_tSet] at hx; omega
    isplitl [HsemA]; · iexact HsemA
    isplitl [HsemC]; · iexact HsemC
    iexists _; isplitr
    swap; · iexact HO
    ipureintro; intro p hp
    rcases Finset.mem_insert.mp hp with hp | hp; · exact .inr (hp ▸ rfl)
    exact .inl hp
  iintro %_ HI
  unfold inv
  icases HI with ⟨-, Hc, Hs, ⟨%fr', Hr⟩, ⟨%f, %hf, Ho⟩, HsemA, HsemC, %W', %hW', HO⟩
  sl_exec
  sl_step
  isplitl [Hc Hi' Ho]
  · isplitl [Hc]; · iexact Hc
    isplitl [Hi']; · iexact Hi'
    iapply (Entails.of_eq (pointsTo_congr (ℓ := oLoc d) (q := fullShare) (I := tSet (wL L)) (f := f) (g := (gOut (kf d) : Buf (Elt F) (oLoc d))) (fun x hx => by
      refine hf x hx ?_
      have htr : Scf.trips k1_t1_loop.lb k1_t1_loop.ub k1_t1_loop.st = 40 := trips_eq
      rw [htr]
      rw [mem_tSet] at hx; omega)))
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.KI
end
-- ==== Proof.KICall.lean ====
/-
  The SparseCore call as the launch sees it: the tiles' obligation, and how the three buffers are dealt to the cores and
  the tiles and taken back.
-/
module

public import proofs.«01_k».proof.Proof.KITile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A tile's obligation at the launch -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_ctx (coordsV c s)
          (Memref.whole main_v4_scv) (Memref.isWhole_whole _) (Memref.whole main_v8_scv) (Memref.isWhole_whole _) (Memref.whole main_v9_scv) (Memref.isWhole_whole _)
          (Memref.whole cc1_scratch0) (Memref.isWhole_whole _) (Memref.whole cc1_scratch1) (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (k : Dev nD → Call F)

set_option maxRecDepth 16384 in
theorem tileObl (hF : (K (F := F)).Facts) : (K (F := F)).TileObl (D (F := F)) 𝒱 (P k) v₀ 0 := by
  intro d c i O W hO _ _
  simp only [show (P k).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) k hF O W hO).trans (wp_mono frame _ _ fun _ => obl_post)

/-! ## The inputs' shares and the output's nodes, split and joined -/

theorem tSet_disjoint (c : Fin 2) : ∀ i ∈ (Finset.univ : Finset (Fin 16)), ∀ j ∈ (Finset.univ : Finset (Fin 16)), i ≠ j →
    Disjoint (tSet (wid c i)) (tSet (wid c j)) := by
  intro i _ j _ hij
  rw [Finset.disjoint_left]; intro x hx hy
  rw [mem_tSet] at hx hy
  exact hij (Fin.ext (by simp only [wid] at hx hy; omega))
theorem tSet_cover (c : Fin 2) : (Finset.univ : Finset (Fin 16)).biUnion (fun i => tSet (wid c i)) = cSet c.val := by
  ext x
  have hx : (x 0).val < 100000 := (x 0).isLt
  simp only [Finset.mem_biUnion, Finset.mem_univ, true_and, mem_tSet, mem_cSet, wid]
  constructor
  · rintro ⟨i, hi⟩; omega
  · intro h; exact ⟨⟨(x 0).val / 3200 / 2, by omega⟩, by simp only; omega⟩
theorem cSet_disjoint : ∀ i ∈ (Finset.univ : Finset (Fin 2)), ∀ j ∈ (Finset.univ : Finset (Fin 2)), i ≠ j → Disjoint (cSet i.val) (cSet j.val) := by
  intro i _ j _ hij
  rw [Finset.disjoint_left]; intro x hx hy
  rw [mem_cSet] at hx hy
  exact hij (Fin.ext (hx.symm.trans hy))
theorem cSet_cover : (Finset.univ : Finset (Fin 2)).biUnion (fun c => cSet c.val) = Finset.univ := by
  ext x
  simp only [Finset.mem_biUnion, Finset.mem_univ, true_and, mem_cSet, iff_true]
  exact ⟨⟨(x 0).val / 3200 % 2, by omega⟩, rfl⟩

theorem out_tiles (d : Dev nD) (c : Fin 2) (f : Buf (Elt F) (oLoc d)) :
    (oLoc d ↦[cSet c.val]{fullShare} f : sProp 𝕄) = bigSep Finset.univ fun i : Fin 16 => oLoc d ↦[tSet (wid c i)]{fullShare} f := by
  rw [← pointsTo_biUnion Finset.univ (ℓ := oLoc d) (fun i => tSet (wid c i)) (tSet_disjoint c), tSet_cover]
theorem out_cores (d : Dev nD) (f : Buf (Elt F) (oLoc d)) :
    (oLoc d ↦{fullShare} f : sProp 𝕄) = bigSep Finset.univ fun c : Fin 2 => oLoc d ↦[cSet c.val]{fullShare} f := by
  rw [← pointsTo_biUnion Finset.univ (ℓ := oLoc d) (fun c : Fin 2 => cSet c.val) cSet_disjoint, cSet_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's part is its tiles' parts. -/
theorem core_tiles (d : Dev nD) (c : Fin 2) (f : S100000x128.Idx → Elt F .f32) :
    (coreRes k d c f : sProp 𝕄) = bigSep Finset.univ fun i : Fin 16 => tileRes k d c i f := by
  rw [bigSep_sep', bigSep_sep', ← out_tiles d c f]
  exact congrArg₂ (fun A B : sProp 𝕄 => iprop(A ∗ B ∗ oLoc d ↦[cSet c.val]{fullShare} (f : Buf (Elt F) (oLoc d))))
    (ShareLeaves.pointsTo_leaves (ℓ := cLoc d) Finset.univ ((k d).cv : Buf (Elt F) (cLoc d)) 4 (cq c))
    (ShareLeaves.pointsTo_leaves (ℓ := iLoc d) Finset.univ ((k d).iv : Buf (Elt F) (iLoc d)) 4 (cq c))
/-- The three whole buffers are the two cores' parts. -/
theorem whole_cores (d : Dev nD) (f : S100000x128.Idx → Elt F .f32) :
    (iprop((cLoc d ↦{fullShare} ((k d).cv : Buf (Elt F) (cLoc d))) ∗ (iLoc d ↦{fullShare} ((k d).iv : Buf (Elt F) (iLoc d)))
        ∗ (oLoc d ↦{fullShare} (f : Buf (Elt F) (oLoc d)))) : sProp 𝕄)
      = bigSep Finset.univ fun c : Fin 2 => coreRes k d c f := by
  rw [bigSep_sep', bigSep_sep', ← out_cores d f]
  exact congrArg₂ (fun A B : sProp 𝕄 => iprop(A ∗ B ∗ oLoc d ↦{fullShare} (f : Buf (Elt F) (oLoc d))))
    (ShareLeaves.pointsTo_leaves (ℓ := cLoc d) Finset.univ ((k d).cv : Buf (Elt F) (cLoc d)) 1 fullShare)
    (ShareLeaves.pointsTo_leaves (ℓ := iLoc d) Finset.univ ((k d).iv : Buf (Elt F) (iLoc d)) 1 fullShare)

theorem vecSplit : (K (F := F)).VecSplit' (P k) 0 := by
  intro d c
  show coreRes k d (Fin.cast nCore_zero c) (k d).ov ⊢ |={Set.univ}=> iprop(
      (bigSep Finset.univ fun i : Fin ((K (F := F)).nSub 0) => tileRes k d (Fin.cast nCore_zero c) (Fin.cast nSub_zero i) (k d).ov)
      ∗ ((bigSep Finset.univ fun i : Fin ((K (F := F)).nSub 0) => tileRes k d (Fin.cast nCore_zero c) (Fin.cast nSub_zero i) (gOut (k d)))
          -∗ coreRes k d (Fin.cast nCore_zero c) (gOut (k d))))
  rw [bigSep_tasks (F := F) (fun i => tileRes k d (Fin.cast nCore_zero c) i (k d).ov),
    bigSep_tasks (F := F) (fun i => tileRes k d (Fin.cast nCore_zero c) i (gOut (k d))), ← core_tiles, ← core_tiles]
  iintro H; imodintro
  isplitl [H]; · iexact H
  iintro H; iexact H

/-- The call starts from the three whole buffers, -/
theorem st0_eq (d : Dev nD) : (bigSep Finset.univ fun c : Fin ((K (F := F)).nCore 0) => (P k).st 0 d c)
    = (iprop((cLoc d ↦{fullShare} ((k d).cv : Buf (Elt F) (cLoc d))) ∗ (iLoc d ↦{fullShare} ((k d).iv : Buf (Elt F) (iLoc d)))
        ∗ (oLoc d ↦{fullShare} ((k d).ov : Buf (Elt F) (oLoc d)))) : sProp 𝕄) :=
  (bigSep_cores (F := F) (fun c => coreRes k d c (k d).ov)).trans (whole_cores k d (k d).ov).symm
/-- and ends with the output at `gOut`. -/
theorem dn0_eq (d : Dev nD) : (bigSep Finset.univ fun c : Fin ((K (F := F)).nCore 0) => (P k).dn 0 d c)
    = (iprop((cLoc d ↦{fullShare} ((k d).cv : Buf (Elt F) (cLoc d))) ∗ (iLoc d ↦{fullShare} ((k d).iv : Buf (Elt F) (iLoc d)))
        ∗ (oLoc d ↦{fullShare} (gOut (k d) : Buf (Elt F) (oLoc d)))) : sProp 𝕄) :=
  (bigSep_cores (F := F) (fun c => coreRes k d c (gOut (k d)))).trans (whole_cores k d (gOut (k d))).symm

end Cert.Proof.KI
end
-- ==== Proof.KIBody.lean ====
/-
  The TensorCore kernel: what its body does at one grid point to the three running values (each graph's maximum score,
  its denominator, its weighted sum), and at the last point to the output.
-/
module

public import proofs.«01_k».proof.Proof.KIBase

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## One grid point of the TensorCore kernel -/

/-- The body's first condition: the grid's first point. -/
abbrev isFirst (i : grid0.Coords) : Prop :=
  Scalar.cmpi .ne (Scalar.extui (Scalar.cmpi .eq (BitVec.ofNat 32 (i 0).val) 0#32)) 0#32 = 1#1

/-! The values one point makes of the blocks it reads and the running values it finds. -/

section Values

variable (x1 : FVec F S2000x128 .f32) (x2 : Vec F S1x1x2000 .i32) (x3 : FVec F S128x64 .f32) (x4 : FVec F S1x64 .f32)
  (x5 : FVec F S64x1 .f32) (x6 : FVec F S1x1 .f32) (mx dn : FVec F S128x1 .f32) (ac : FVec F S128x128 .f32)

def stM : FVec F S128x1 .f32 := k0_pay4 (k0_pay11 x1 x2 x3 x4 x5 x6 mx)
def stD : FVec F S128x1 .f32 :=
  k0_pay2 (k0_pay10 x2) (k0_pay12 x1 x2 x3 x4 x5 x6 mx) (k0_pay13 x1 x2 x3 x4 x5 x6 mx) (k0_pay14 (F := F)) dn
def stS : FVec F S128x128 .f32 :=
  k0_pay3 x1 (k0_pay10 x2) (k0_pay12 x1 x2 x3 x4 x5 x6 mx) (k0_pay13 x1 x2 x3 x4 x5 x6 mx) (k0_pay14 (F := F)) ac

end Values

theorem hz2 : (![0, 0] : Fin 2 → Nat) = fun _ => 0 := funext fun a => by fin_cases a <;> rfl
theorem hz3 : (![0, 0, 0] : Fin 3 → Nat) = fun _ => 0 := funext fun a => by fin_cases a <;> rfl

/-- Reading a buffer whole after a store of the whole of it, whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, by
    subst h; show y ∈ (Rect.whole S).set; rw [Rect.set_whole]; exact Finset.mem_univ y⟩]
  exact View.canon_cons_unit_zero h inb w L

section Body

variable (c : Dev nD) (i : grid0.Coords)

/-- Memref `M`'s buffer on core `c`, held whole at `f`. -/
abbrev Bf {sp : Space} {S : Shape} {e : EltTy} (M : Memref sig .tc sp S e) : Type := Buf (Elt F) (M.view.loc (c.tc : Thread nD τ))
abbrev pt {sp : Space} {S : Shape} {e : EltTy} (M : Memref sig .tc sp S e) (f : Bf (F := F) c M) : sProp 𝕄 :=
  M.view.loc (c.tc : Thread nD τ) ↦{fullShare} f

variable (M1 : Memref sig .tc .vmem S2000x128 .f32) (h1 : M1.IsWhole) (M2 : Memref sig .tc .vmem S1x1x2000 .i32) (h2 : M2.IsWhole)
  (M3 : Memref sig .tc .vmem S128x64 .f32) (h3 : M3.IsWhole) (M4 : Memref sig .tc .vmem S1x64 .f32) (h4 : M4.IsWhole)
  (M5 : Memref sig .tc .vmem S64x1 .f32) (h5 : M5.IsWhole) (M6 : Memref sig .tc .vmem S1x1 .f32) (h6 : M6.IsWhole)
  (M7 : Memref sig .tc .vmem S128x128 .f32) (h7 : M7.IsWhole) (M8 : Memref sig .tc .vmem S1x128 .f32) (h8 : M8.IsWhole)
  (M9 : Memref sig .tc .vmem S128x128 .f32) (h9 : M9.IsWhole) (M10 : Memref sig .tc .vmem S128x1 .f32) (h10 : M10.IsWhole)
  (M11 : Memref sig .tc .vmem S128x1 .f32) (h11 : M11.IsWhole) (M12 : Memref sig .tc .vmem S128x128 .f32) (h12 : M12.IsWhole)
  (f1 : Bf (F := F) c M1) (f2 : Bf (F := F) c M2) (f3 : Bf (F := F) c M3) (f4 : Bf (F := F) c M4) (f5 : Bf (F := F) c M5) (f6 : Bf (F := F) c M6)
  (f7 : Bf (F := F) c M7) (f8 : Bf (F := F) c M8) (f9 : Bf (F := F) c M9) (f10 : Bf (F := F) c M10) (f11 : Bf (F := F) c M11) (f12 : Bf (F := F) c M12)

set_option maxHeartbeats 4000000 in
theorem body_first (hA : isFirst i) (hB : ¬ k0_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c M12 f12
        ∗ (iprop(pt c M1 f1 ∗ pt c M2 f2 ∗ pt c M3 f3 ∗ pt c M4 f4 ∗ pt c M5 f5 ∗ pt c M6 f6 ∗ pt c M7 f7 ∗ pt c M8 f8
        ∗ pt c M9 f9
        ∗ (∃ g, ⌜M10.view.read (Elt F) g = stM (M1.view.read (Elt F) f1) (M2.view.read (Elt F) f2) (M3.view.read (Elt F) f3) (M4.view.read (Elt F) f4)
          (M5.view.read (Elt F) f5) (M6.view.read (Elt F) f6) (k0_pay6 (F := F))⌝ ∗ pt c M10 g)
        ∗ (∃ g, ⌜M11.view.read (Elt F) g = stD (M1.view.read (Elt F) f1) (M2.view.read (Elt F) f2) (M3.view.read (Elt F) f3) (M4.view.read (Elt F) f4)
          (M5.view.read (Elt F) f5) (M6.view.read (Elt F) f6) (k0_pay6 (F := F)) (k0_pay7 (F := F))⌝ ∗ pt c M11 g)
        ∗ (∃ g, ⌜M12.view.read (Elt F) g = stS (M1.view.read (Elt F) f1) (M2.view.read (Elt F) f2) (M3.view.read (Elt F) f3) (M4.view.read (Elt F) f4)
          (M5.view.read (Elt F) f5) (M6.view.read (Elt F) f6) (k0_pay6 (F := F)) (k0_pay8 (F := F))⌝ ∗ pt c M12 g)) -∗ Q ⟨⟩))
      ⊢ wp frame (wpE (defs₀ (F := F)) 𝒱₀ (c.tc : Thread nD τ) none) E
          (cc0__stats_body i M1 h1 M2 h2 M3 h3 M4 h4 M5 h5 M6 h6 M7 h7 M8 h8 M9 h9 M10 h10 M11 h11 M12 h12) Q := by
  iintro ⟨H1, H2, H3, H4, H5, H6, H7, H8, H9, H10, H11, H12, Hk⟩
  simp only [cc0__stats_body_eq_skeleton, k0_part1_eq_skeleton]; unfold cc0__stats_body_skel
  sl_exec! (disch := first | sl_exact hA | sl_exact hB)
  sl_step
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]
  · iexists _; isplitr; swap; · iexact H10
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  isplitl [H11]
  · iexists _; isplitr; swap; · iexact H11
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  · iexists _; isplitr; swap; · iexact H12
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _

set_option maxHeartbeats 4000000 in
theorem body_mid (hA : ¬ isFirst i) (hB : ¬ k0_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c M12 f12
        ∗ (iprop(pt c M1 f1 ∗ pt c M2 f2 ∗ pt c M3 f3 ∗ pt c M4 f4 ∗ pt c M5 f5 ∗ pt c M6 f6 ∗ pt c M7 f7 ∗ pt c M8 f8
        ∗ pt c M9 f9
        ∗ (∃ g, ⌜M10.view.read (Elt F) g = stM (M1.view.read (Elt F) f1) (M2.view.read (Elt F) f2) (M3.view.read (Elt F) f3) (M4.view.read (Elt F) f4)
          (M5.view.read (Elt F) f5) (M6.view.read (Elt F) f6) (M10.view.read (Elt F) f10)⌝ ∗ pt c M10 g)
        ∗ (∃ g, ⌜M11.view.read (Elt F) g = stD (M1.view.read (Elt F) f1) (M2.view.read (Elt F) f2) (M3.view.read (Elt F) f3) (M4.view.read (Elt F) f4)
          (M5.view.read (Elt F) f5) (M6.view.read (Elt F) f6) (M10.view.read (Elt F) f10) (M11.view.read (Elt F) f11)⌝ ∗ pt c M11 g)
        ∗ (∃ g, ⌜M12.view.read (Elt F) g = stS (M1.view.read (Elt F) f1) (M2.view.read (Elt F) f2) (M3.view.read (Elt F) f3) (M4.view.read (Elt F) f4)
          (M5.view.read (Elt F) f5) (M6.view.read (Elt F) f6) (M10.view.read (Elt F) f10) (M12.view.read (Elt F) f12)⌝ ∗ pt c M12 g)) -∗ Q ⟨⟩))
      ⊢ wp frame (wpE (defs₀ (F := F)) 𝒱₀ (c.tc : Thread nD τ) none) E
          (cc0__stats_body i M1 h1 M2 h2 M3 h3 M4 h4 M5 h5 M6 h6 M7 h7 M8 h8 M9 h9 M10 h10 M11 h11 M12 h12) Q := by
  iintro ⟨H1, H2, H3, H4, H5, H6, H7, H8, H9, H10, H11, H12, Hk⟩
  simp only [cc0__stats_body_eq_skeleton, k0_part1_eq_skeleton]; unfold cc0__stats_body_skel
  sl_exec! (disch := first | sl_exact hA | sl_exact hB)
  sl_step
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]
  · iexists _; isplitr; swap; · iexact H10
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  isplitl [H11]
  · iexists _; isplitr; swap; · iexact H11
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  · iexists _; isplitr; swap; · iexact H12
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _

set_option maxHeartbeats 4000000 in
theorem body_last (hA : ¬ isFirst i) (hB : k0_cond2 i = 1#1) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c M12 f12
        ∗ (iprop(pt c M1 f1 ∗ pt c M2 f2 ∗ pt c M3 f3 ∗ pt c M4 f4 ∗ pt c M5 f5 ∗ pt c M6 f6 ∗ pt c M7 f7 ∗ pt c M8 f8
        ∗ (∃ g, ⌜M9.view.read (Elt F) g = k0_pay5 (stD (M1.view.read (Elt F) f1) (M2.view.read (Elt F) f2) (M3.view.read (Elt F) f3) (M4.view.read (Elt F) f4)
          (M5.view.read (Elt F) f5) (M6.view.read (Elt F) f6) (M10.view.read (Elt F) f10) (M11.view.read (Elt F) f11)) (stS (M1.view.read (Elt F) f1) (M2.view.read (Elt F) f2) (M3.view.read (Elt F) f3) (M4.view.read (Elt F) f4)
          (M5.view.read (Elt F) f5) (M6.view.read (Elt F) f6) (M10.view.read (Elt F) f10) (M12.view.read (Elt F) f12)) (M7.view.read (Elt F) f7) (M8.view.read (Elt F) f8)⌝ ∗ pt c M9 g)
        ∗ (∃ g, ⌜M10.view.read (Elt F) g = stM (M1.view.read (Elt F) f1) (M2.view.read (Elt F) f2) (M3.view.read (Elt F) f3) (M4.view.read (Elt F) f4)
          (M5.view.read (Elt F) f5) (M6.view.read (Elt F) f6) (M10.view.read (Elt F) f10)⌝ ∗ pt c M10 g)
        ∗ (∃ g, ⌜M11.view.read (Elt F) g = stD (M1.view.read (Elt F) f1) (M2.view.read (Elt F) f2) (M3.view.read (Elt F) f3) (M4.view.read (Elt F) f4)
          (M5.view.read (Elt F) f5) (M6.view.read (Elt F) f6) (M10.view.read (Elt F) f10) (M11.view.read (Elt F) f11)⌝ ∗ pt c M11 g)
        ∗ (∃ g, ⌜M12.view.read (Elt F) g = stS (M1.view.read (Elt F) f1) (M2.view.read (Elt F) f2) (M3.view.read (Elt F) f3) (M4.view.read (Elt F) f4)
          (M5.view.read (Elt F) f5) (M6.view.read (Elt F) f6) (M10.view.read (Elt F) f10) (M12.view.read (Elt F) f12)⌝ ∗ pt c M12 g)) -∗ Q ⟨⟩))
      ⊢ wp frame (wpE (defs₀ (F := F)) 𝒱₀ (c.tc : Thread nD τ) none) E
          (cc0__stats_body i M1 h1 M2 h2 M3 h3 M4 h4 M5 h5 M6 h6 M7 h7 M8 h8 M9 h9 M10 h10 M11 h11 M12 h12) Q := by
  iintro ⟨H1, H2, H3, H4, H5, H6, H7, H8, H9, H10, H11, H12, Hk⟩
  simp only [cc0__stats_body_eq_skeleton, k0_part1_eq_skeleton]; unfold cc0__stats_body_skel
  sl_exec! (disch := first | sl_exact hA | sl_exact hB)
  sl_step
  iapply Hk
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]
  · iexists _; isplitr; swap; · iexact H9
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  isplitl [H10]
  · iexists _; isplitr; swap; · iexact H10
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  isplitl [H11]
  · iexists _; isplitr; swap; · iexact H11
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _
  · iexists _; isplitr; swap; · iexact H12
    ipureintro
    sl_unfold_words
    simp only [View.readAt_eq_ld, View.ld_unit_zero (S := S2000x128) hz2, View.ld_unit_zero (S := S1x1x2000) hz3, View.ld_unit_zero (S := S128x64) hz2, View.ld_unit_zero (S := S1x64) hz2, View.ld_unit_zero (S := S64x1) hz2, View.ld_unit_zero (S := S1x1) hz2, View.ld_unit_zero (S := S128x1) hz2, View.ld_unit_zero (S := S128x128) hz2, View.ld_unit_zero (S := S1x128) hz2,
      View.readCov_unit_zero (S := S128x1) _ hz2, View.readCov_unit_zero (S := S128x128) _ hz2]
    exact read_store_whole _ _ hz2 _ _ _

end Body

end Cert.Proof.KI
end
-- ==== Proof.KIRegion.lean ====
/-
  The TensorCore call as a region of the whole program: its proof data at the contents the region is entered with, the
  body's obligation at every point, and what the result array holds afterwards.
-/
module

public import proofs.«01_k».proof.Proof.KIBody
public import Idealize.ShloMosaic.Lib.Pipeline.RegionsLoop
public import Idealize.ShloMosaic.Lib.Pipeline.Value
public import Idealize.ShloMosaic.Lib.Pipeline.FrameBody

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (Dat Cfg Window BodyObligation)

/-! ## The proof data, at an entry valuation -/

section Region

variable (V : (c : Dev nD) → (b : Ref sig .tc) → Buf (Elt F) ((c.tc : Thread nD τ).loc b))

/-- Window `w`'s block at point `t`, of its array as the region finds it. -/
abbrev iblk (c : Dev nD) (w : Fin 9) (t : Fin cfg0.N) : (cfg0.win w).block.Idx → Elt F (cfg0.win w).elt :=
  match w with
  | 0 => ((cfg0.win 0).blk t).view.read (Elt F) (V c main_arg0)
  | 1 => ((cfg0.win 1).blk t).view.read (Elt F) (V c main_v0)
  | 2 => ((cfg0.win 2).blk t).view.read (Elt F) (V c main_arg2)
  | 3 => ((cfg0.win 3).blk t).view.read (Elt F) (V c main_v1)
  | 4 => ((cfg0.win 4).blk t).view.read (Elt F) (V c main_arg4)
  | 5 => ((cfg0.win 5).blk t).view.read (Elt F) (V c main_v2)
  | 6 => ((cfg0.win 6).blk t).view.read (Elt F) (V c main_arg6)
  | 7 => ((cfg0.win 7).blk t).view.read (Elt F) (V c main_v3)
  | 8 => ((cfg0.win 8).blk t).view.read (Elt F) (V c main_v4)

/-- The running values: maximum, denominator, weighted sum. -/
structure Acc (F : FTy → Type) where
  mx : FVec F S128x1 .f32
  dn : FVec F S128x1 .f32
  ac : FVec F S128x128 .f32

/-- One point's step. -/
def step (c : Dev nD) (t : Fin cfg0.N) (a : Acc F) : Acc F where
  mx := stM (iblk V c 0 t) (iblk V c 1 t) (iblk V c 2 t) (iblk V c 3 t) (iblk V c 4 t) (iblk V c 5 t) a.mx
  dn := stD (iblk V c 0 t) (iblk V c 1 t) (iblk V c 2 t) (iblk V c 3 t) (iblk V c 4 t) (iblk V c 5 t) a.mx a.dn
  ac := stS (iblk V c 0 t) (iblk V c 1 t) (iblk V c 2 t) (iblk V c 3 t) (iblk V c 4 t) (iblk V c 5 t) a.mx a.ac

/-- What the first point starts from. -/
def acc₀ : Acc F := ⟨k0_pay6 (F := F), k0_pay7 (F := F), k0_pay8 (F := F)⟩

/-- The running values after point `n`. -/
def accAt (c : Dev nD) : (n : ℕ) → n < cfg0.N → Acc F
  | 0, h => step V c ⟨0, h⟩ acc₀
  | n + 1, h => step V c ⟨n + 1, h⟩ (accAt c n (Nat.lt_of_succ_lt h))

/-- What the last point writes. -/
def outAt (c : Dev nD) (t : Fin cfg0.N) : FVec F S128x128 .f32 :=
  k0_pay5 (accAt V c t.val t.isLt).dn (accAt V c t.val t.isLt).ac (iblk V c 6 t) (iblk V c 7 t)

abbrev M10 : Memref sig .tc .vmem S128x1 .f32 := Memref.whole cc0_scratch0
abbrev M11 : Memref sig .tc .vmem S128x1 .f32 := Memref.whole cc0_scratch1
abbrev M12 : Memref sig .tc .vmem S128x128 .f32 := Memref.whole cc0_scratch2

/-- The scratch buffers at the running values. -/
def held (c : Dev nD) (a : Acc F) : sProp 𝕄 :=
  iprop((∃ g, ⌜M10.view.read (Elt F) g = a.mx⌝ ∗ pt c M10 g) ∗ (∃ g, ⌜M11.view.read (Elt F) g = a.dn⌝ ∗ pt c M11 g)
    ∗ (∃ g, ⌜M12.view.read (Elt F) g = a.ac⌝ ∗ pt c M12 g))

/-- The invariant before point `n`: at the start the scratch buffers at anything, then at the running values. -/
def Inv (c : Dev nD) : (n : ℕ) → n ≤ cfg0.N → sProp 𝕄
  | 0, _ => iprop((∃ g, pt (F := F) c M10 g) ∗ (∃ g, pt (F := F) c M11 g) ∗ (∃ g, pt (F := F) c M12 g))
  | n + 1, h => held c (accAt V c n h)

/-- The pairs already waited on sit at level 0. -/
def rec0 (c : Dev nD) : Set (SemLoc sig × HIx 1) := {p | (K (F := F)).lev ((SparseCore.T c : Thread nD τ), p.1) p.2 ≤ 0}

def dat (c : Dev nD) : Dat τ (Elt F) (HIx 1) ℕ UU ℕ cfg0 c where
  A w := V c (Pipeline.arrRef spec0 w)
  after w t := match w with
    | 0 => iblk V c 0 t
    | 1 => iblk V c 1 t
    | 2 => iblk V c 2 t
    | 3 => iblk V c 3 t
    | 4 => iblk V c 4 t
    | 5 => iblk V c 5 t
    | 6 => iblk V c 6 t
    | 7 => iblk V c 7 t
    | 8 => outAt V c t
  Φ t := Inv V c t.val (Nat.le_of_lt_succ t.isLt)
  q _ := fullShare
  owed _ := (K (F := F)).Otc c 0
  recorded _ := rec0 (F := F) c

theorem first_iff : ∀ t : Fin grid0.N, isFirst (grid0.coords t) ↔ t.val = 0 := by decide +kernel
theorem last_iff : ∀ t : Fin grid0.N, k0_cond2 (grid0.coords t) = 1#1 ↔ t.val = 49 := by decide +kernel

section Before
variable (c : Dev nD) (t : Fin cfg0.N)
theorem before_0 (d) : (dat V c).before 0 t d = iblk V c 0 t :=
  (dat V c).before_in_eq_fetched 0 rfl (fun _ => rfl) (fun _ _ _ => rfl) (fun _ => rfl) t d
theorem before_1 (d) : (dat V c).before 1 t d = iblk V c 1 t :=
  (dat V c).before_in_eq_fetched 1 rfl (fun _ => rfl) (fun _ _ _ => rfl) (fun _ => rfl) t d
theorem before_2 (d) : (dat V c).before 2 t d = iblk V c 2 t :=
  (dat V c).before_in_eq_fetched 2 rfl (fun _ => rfl) (fun _ _ _ => rfl) (fun _ => rfl) t d
theorem before_3 (d) : (dat V c).before 3 t d = iblk V c 3 t :=
  (dat V c).before_in_eq_fetched 3 rfl (fun _ => rfl) (fun _ _ _ => rfl) (fun _ => rfl) t d
theorem before_4 (d) : (dat V c).before 4 t d = iblk V c 4 t :=
  (dat V c).before_in_eq_fetched 4 rfl (fun _ => rfl) (fun _ _ _ => rfl) (fun _ => rfl) t d
theorem before_5 (d) : (dat V c).before 5 t d = iblk V c 5 t :=
  (dat V c).before_in_eq_fetched 5 rfl (fun _ => rfl) (fun _ _ _ => rfl) (fun _ => rfl) t d
theorem before_6 (d) : (dat V c).before 6 t d = iblk V c 6 t :=
  (dat V c).before_in_eq_fetched 6 rfl (fun _ => rfl) (fun _ _ _ => rfl) (fun _ => rfl) t d
theorem before_7 (d) : (dat V c).before 7 t d = iblk V c 7 t :=
  (dat V c).before_in_eq_fetched 7 rfl (fun _ => rfl) (fun _ _ _ => rfl) (fun _ => rfl) t d
end Before

theorem N50 : cfg0.N = 50 := N_0

theorem Inv_pos (c : Dev nD) (n : ℕ) (h : n ≤ cfg0.N) (hn : n ≠ 0) :
    Inv V c n h = held c (accAt V c (n - 1) (by omega)) := by
  obtain ⟨k, rfl⟩ := Nat.exists_eq_succ_of_ne_zero hn
  rfl

theorem accAt_zero (c : Dev nD) (t : Fin cfg0.N) (h0 : t.val = 0) : accAt V c t.val t.isLt = step V c t acc₀ := by
  obtain ⟨n, hn⟩ := t; dsimp only at h0; subst h0; rfl

theorem accAt_pos (c : Dev nD) (t : Fin cfg0.N) (h0 : t.val ≠ 0) :
    accAt V c t.val t.isLt = step V c t (accAt V c (t.val - 1) (by omega)) := by
  obtain ⟨n, hn⟩ := t; dsimp only at h0 ⊢
  obtain ⟨k, rfl⟩ := Nat.exists_eq_succ_of_ne_zero h0
  rfl

theorem Φ_start (c : Dev nD) (t : Fin cfg0.N) : (dat V c).Φ t.castSucc = Inv V c t.val (Nat.le_of_lt t.isLt) := by
  dsimp only [dat]; exact Pipeline.Dat.Φ_castSucc (Inv V c) t

theorem Φ_end (c : Dev nD) (t : Fin cfg0.N) : (dat V c).Φ t.succ = held c (accAt V c t.val t.isLt) := by
  dsimp only [dat]; rfl

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = outAt V c t := by dsimp only [dat]

/-- A whole buffer owned at contents `X`. -/
theorem owns_of_whole (c : Dev nD) {sp : Space} {S : Shape} {e : EltTy} (M : Memref sig .tc sp S e) (h : M.IsWhole) (X : S.Idx → Elt F e) :
    (owns (c.tc : Thread nD τ) M fullShare X : sProp 𝕄) = iprop(∃ f, ⌜M.view.read (Elt F) f = X⌝ ∗ pt c M f) := by
  obtain ⟨b, hsp, hsh, he, h⟩ := h
  subst hsp hsh he
  obtain rfl := eq_of_heq h
  unfold owns pt
  simp only [Memref.view_whole, View.set_whole]

set_option maxHeartbeats 8000000 in
theorem body_obligation (c : Dev nD) : BodyObligation (dat V c) (defs₀ (F := F)) 𝒱₀ none Set.univ := fun t => by
  have hN := N50
  have hlt := t.isLt
  rw [bigSep_W0, bigSep_W0]
  rw [Φ_start, Φ_end]
  have hO : (dat V c).owesAt none t.succ = (dat V c).owesAt none t.castSucc := rfl
  rw [hO]
  simp only [before_0, before_1, before_2, before_3, before_4, before_5, before_6, before_7, after_0, after_1, after_2, after_3, after_4, after_5, after_6, after_7, after_8]
  simp only [owns_of_whole c (win0_0.stage (cfg0.slots t 0)) (hstage0_0 ((cfg0.slots t 0).cast nbuf0_0)), owns_of_whole c (win0_1.stage (cfg0.slots t 1)) (hstage0_1 ((cfg0.slots t 1).cast nbuf0_1)), owns_of_whole c (win0_2.stage (cfg0.slots t 2)) (hstage0_2 ((cfg0.slots t 2).cast nbuf0_2)), owns_of_whole c (win0_3.stage (cfg0.slots t 3)) (hstage0_3 ((cfg0.slots t 3).cast nbuf0_3)), owns_of_whole c (win0_4.stage (cfg0.slots t 4)) (hstage0_4 ((cfg0.slots t 4).cast nbuf0_4)), owns_of_whole c (win0_5.stage (cfg0.slots t 5)) (hstage0_5 ((cfg0.slots t 5).cast nbuf0_5)), owns_of_whole c (win0_6.stage (cfg0.slots t 6)) (hstage0_6 ((cfg0.slots t 6).cast nbuf0_6)), owns_of_whole c (win0_7.stage (cfg0.slots t 7)) (hstage0_7 ((cfg0.slots t 7).cast nbuf0_7)), owns_of_whole c (win0_8.stage (cfg0.slots t 8)) (hstage0_8 ((cfg0.slots t 8).cast nbuf0_8))]
  show _ ⊢ wp frame (wpE (defs₀ (F := F)) 𝒱₀ (c.tc : Thread nD τ) none) Set.univ (bodyAt0 t) _
  unfold bodyAt0
  by_cases h0 : t.val = 0
  · have hA := (first_iff t).mpr h0
    have hB : ¬ k0_cond2 (grid0.coords t) = 1#1 := fun h => by have := (last_iff t).mp h; omega
    have hi : idle0 8 (grid0.coords t) = true := by show (!(k0_cond2 (grid0.coords t) == 1#1)) = true; simp [hB]
    have hfl : (win0 8).flush t = false := by
      rw [Bool.eq_false_iff]; intro h; have := (flush0_8 t).mp h; omega
    simp only [hi, hfl]
    rw [show Inv V c t.val (Nat.le_of_lt t.isLt) = iprop((∃ g, pt (F := F) c M10 g) ∗ (∃ g, pt (F := F) c M11 g) ∗ (∃ g, pt (F := F) c M12 g)) from by
      obtain ⟨n, hn⟩ := t; dsimp only at h0; subst h0; rfl]
    iintro ⟨⟨⟨%g10, G10⟩, ⟨%g11, G11⟩, ⟨%g12, G12⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
    iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) f0 f1 f2 f3 f4 f5 f6 f7 f8 g10 g11 g12 hA hB Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [G10]; · iexact G10
    isplitl [G11]; · iexact G11
    isplitl [G12]; · iexact G12
    iintro ⟨H0, H1, H2, H3, H4, H5, H6, H7, H8, ⟨%k10, %hk10, G10⟩, ⟨%k11, %hk11, G11⟩, ⟨%k12, %hk12, G12⟩⟩
    rw [hf0, hf1, hf2, hf3, hf4, hf5] at hk10
    rw [hf0, hf1, hf2, hf3, hf4, hf5] at hk11
    rw [hf0, hf1, hf2, hf3, hf4, hf5] at hk12
    isplitl [G10 G11 G12]
    · unfold held
      rw [accAt_zero V c t h0]
      isplitl [G10]; · iexists k10; isplitr; · ipureintro; exact hk10
                       iexact G10
      isplitl [G11]; · iexists k11; isplitr; · ipureintro; exact hk11
                       iexact G11
      iexists k12; isplitr; · ipureintro; exact hk12
      iexact G12
    isplitl [Howes]; · iexact Howes
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    iexists d8; iexists f8; isplitr; · ipureintro; exact hf8
    iexact H8
  · have hA : ¬ isFirst (grid0.coords t) := fun h => h0 ((first_iff t).mp h)
    rw [Inv_pos V c _ _ h0]
    unfold held
    by_cases h9 : t.val = 49
    · have hB := (last_iff t).mpr h9
      have hi : idle0 8 (grid0.coords t) = false := by show (!(k0_cond2 (grid0.coords t) == 1#1)) = false; simp [hB]
      simp only [hi]
      iintro ⟨⟨⟨%g10, %hg10, G10⟩, ⟨%g11, %hg11, G11⟩, ⟨%g12, %hg12, G12⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
      iapply (body_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) f0 f1 f2 f3 f4 f5 f6 f7 f8 g10 g11 g12 hA hB Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [G10]; · iexact G10
      isplitl [G11]; · iexact G11
      isplitl [G12]; · iexact G12
      iintro ⟨H0, H1, H2, H3, H4, H5, H6, H7, ⟨%k8, %hk8, H8⟩, ⟨%k10, %hk10, G10⟩, ⟨%k11, %hk11, G11⟩, ⟨%k12, %hk12, G12⟩⟩
      rw [hf0, hf1, hf2, hf3, hf4, hf5, hg10] at hk10
      rw [hf0, hf1, hf2, hf3, hf4, hf5, hg10, hg11] at hk11
      rw [hf0, hf1, hf2, hf3, hf4, hf5, hg10, hg12] at hk12
      rw [hf0, hf1, hf2, hf3, hf4, hf5, hf6, hf7, hg10, hg11, hg12] at hk8
      isplitl [G10 G11 G12]
      · skip
        rw [accAt_pos V c t h0]
        isplitl [G10]; · iexists k10; isplitr; · ipureintro; exact hk10
                         iexact G10
        isplitl [G11]; · iexists k11; isplitr; · ipureintro; exact hk11
                         iexact G11
        iexists k12; isplitr; · ipureintro; exact hk12
        iexact G12
      isplitl [Howes]; · iexact Howes
      isplitl [H0]; · iexists f0; isplitr; · ipureintro; exact hf0
                      iexact H0
      isplitl [H1]; · iexists f1; isplitr; · ipureintro; exact hf1
                      iexact H1
      isplitl [H2]; · iexists f2; isplitr; · ipureintro; exact hf2
                      iexact H2
      isplitl [H3]; · iexists f3; isplitr; · ipureintro; exact hf3
                      iexact H3
      isplitl [H4]; · iexists f4; isplitr; · ipureintro; exact hf4
                      iexact H4
      isplitl [H5]; · iexists f5; isplitr; · ipureintro; exact hf5
                      iexact H5
      isplitl [H6]; · iexists f6; isplitr; · ipureintro; exact hf6
                      iexact H6
      isplitl [H7]; · iexists f7; isplitr; · ipureintro; exact hf7
                      iexact H7
      iexists k8; isplitr
      · ipureintro; unfold outAt; rw [accAt_pos V c t h0]; exact hk8
      iexact H8
    · have hB : ¬ k0_cond2 (grid0.coords t) = 1#1 := fun h => h9 ((last_iff t).mp h)
      have hi : idle0 8 (grid0.coords t) = true := by show (!(k0_cond2 (grid0.coords t) == 1#1)) = true; simp [hB]
      have hfl : (win0 8).flush t = false := by
        rw [Bool.eq_false_iff]; intro h; have := (flush0_8 t).mp h; omega
      simp only [hi, hfl]
      iintro ⟨⟨⟨%g10, %hg10, G10⟩, ⟨%g11, %hg11, G11⟩, ⟨%g12, %hg12, G12⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
      iapply (body_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) f0 f1 f2 f3 f4 f5 f6 f7 f8 g10 g11 g12 hA hB Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [G10]; · iexact G10
      isplitl [G11]; · iexact G11
      isplitl [G12]; · iexact G12
      iintro ⟨H0, H1, H2, H3, H4, H5, H6, H7, H8, ⟨%k10, %hk10, G10⟩, ⟨%k11, %hk11, G11⟩, ⟨%k12, %hk12, G12⟩⟩
      rw [hf0, hf1, hf2, hf3, hf4, hf5, hg10] at hk10
      rw [hf0, hf1, hf2, hf3, hf4, hf5, hg10, hg11] at hk11
      rw [hf0, hf1, hf2, hf3, hf4, hf5, hg10, hg12] at hk12
      isplitl [G10 G11 G12]
      · skip
        rw [accAt_pos V c t h0]
        isplitl [G10]; · iexists k10; isplitr; · ipureintro; exact hk10
                         iexact G10
        isplitl [G11]; · iexists k11; isplitr; · ipureintro; exact hk11
                         iexact G11
        iexists k12; isplitr; · ipureintro; exact hk12
        iexact G12
      isplitl [Howes]; · iexact Howes
      isplitl [H0]; · iexists f0; isplitr; · ipureintro; exact hf0
                      iexact H0
      isplitl [H1]; · iexists f1; isplitr; · ipureintro; exact hf1
                      iexact H1
      isplitl [H2]; · iexists f2; isplitr; · ipureintro; exact hf2
                      iexact H2
      isplitl [H3]; · iexists f3; isplitr; · ipureintro; exact hf3
                      iexact H3
      isplitl [H4]; · iexists f4; isplitr; · ipureintro; exact hf4
                      iexact H4
      isplitl [H5]; · iexists f5; isplitr; · ipureintro; exact hf5
                      iexact H5
      isplitl [H6]; · iexists f6; isplitr; · ipureintro; exact hf6
                      iexact H6
      isplitl [H7]; · iexists f7; isplitr; · ipureintro; exact hf7
                      iexact H7
      iexists d8; iexists f8; isplitr; · ipureintro; exact hf8
      iexact H8

end Region

end Cert.Proof.KI
end
-- ==== Proof.KISeg.lean ====
/-
  The TensorCore call over the whole thread state: entered with every buffer of the program at some contents, left with
  the same ones, the result array at what the last grid point wrote.
-/
module

public import proofs.«01_k».proof.Proof.KIRegion
public import Idealize.ShloMosaic.Lib.Pipeline.RegionsLoop
public import Idealize.ShloMosaic.Lib.Pipeline.Value
public import Idealize.ShloMosaic.Lib.Pipeline.FrameBody

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (Dat Cfg Window BodyObligation)

section Region

variable (V : (c : Dev nD) → (b : Ref sig .tc) → Buf (Elt F) ((c.tc : Thread nD τ).loc b))

/-- The last point. -/
abbrev tLast : Fin cfg0.N := ⟨49, by rw [N50]; decide⟩

/-- The result array after the call. -/
def stats (c : Dev nD) : Buf (Elt F) ((c.tc : Thread nD τ).loc main_v4) := outAt V c tLast

theorem flushed_eq (c : Dev nD) (t : Fin cfg0.N) (hf : (cfg0.win 8).flush t = true) :
    (dat V c).flushed 8 t = ((cfg0.win 8).blk t).view.read (Elt F) (stats V c) := by
  have hN := N50
  have h3 : t.val = 49 := by have := (flush0_8 t).mp hf; have := t.isLt; omega
  obtain rfl : t = tLast := Fin.ext h3
  show (cfg0.win 8).cut (grid0.coords tLast) ((dat V c).after 8 tLast) = _
  rw [after_8]
  have hz' : (fun a => win0_8.index tLast a * main_v4.ty.shape.size a) = fun _ => 0 := funext fun a => by fin_cases a <;> decide
  exact (Memref.read_access_unit_zero (Elt F) main_v4 hz' (fun a => by rw [congrFun hz' a]; simp) (stats V c)).symm

theorem final_o (c : Dev nD) : (dat V c).arrAt 8 cfg0.N = stats V c :=
  (dat V c).arrAt_eq_of_cover 8 (stats V c) (flushed_eq V c) fun i =>
    ⟨tLast, (flush0_8 tLast).mpr rfl, by
      show i ∈ ((View.whole main_v4).slice (win0_8.rect tLast)).set
      rw [View.set_slice_whole, Rect.mem_set_unit]
      intro a
      have h0 : (i 0 : Nat) < 128 := (i 0).isLt
      have h1 : (i 1 : Nat) < 128 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 128 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 128 from by decide +kernel]; omega⟩

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- The core's waits at an index of its own sit below what it owes the call to come. -/
theorem waits (c : Dev nD) : (levAts (K (F := F)).L (K (F := F)).lev : sProp 𝕄)
    ⊢ Pipeline.cellsWaits (Pipeline.pin (pcfgs (F := F)) adm) (pdats V) none (0 : Fin 1) c :=
  Pipeline.cellsWaits_intro (Pipeline.pin (pcfgs (F := F)) adm) (pdats V) none (0 : Fin 1) c fun w s t =>
    (K (F := F)).mayWait_none _ fun g => by
      by_contra h
      have := SparseCore.Cfg.lev_of_Otc_pos (K := K (F := F)) (Nat.pos_of_ne_zero h)
      rw [SparseCore.Cfg.lev_none] at this; omega

/-- What the core owes and has waited on, before and after the region. -/
def owed₀ (c : Dev nD) : sProp 𝕄 :=
  iprop(∃ W, ⌜(K (F := F)).WBelow (SparseCore.T c : Thread nD τ) W 0⌝ ∗ owes (c.tc : Thread nD τ) ((K (F := F)).Otc c 0) W)

theorem owed₀_in (c : Dev nD) : (owed₀ (F := F) c : sProp 𝕄) ⊢ (dat V c).owesAt none 0 := by
  unfold owed₀ Pipeline.Dat.owesAt Pipeline.owesWithin
  iintro ⟨%W, %hW, HO⟩
  iexists W; isplitr
  · ipureintro; exact fun p hp => Or.inl (hW p hp)
  iexact HO

theorem owed₀_out (c : Dev nD) (t) : (dat V c).owesAt none t ⊢ (owed₀ (F := F) c : sProp 𝕄) := by
  unfold owed₀ Pipeline.Dat.owesAt Pipeline.owesWithin
  iintro ⟨%W, %hW, HO⟩
  iexists W; isplitr
  · ipureintro
    intro p hp
    rcases hW hp with h | ⟨w, s, rfl⟩
    · exact h
    · exact le_of_eq rfl
  iexact HO

variable (Vp : (c : Dev nD) → (b : Ref sig .tc) → Buf (Elt F) ((c.tc : Thread nD τ).loc b))

set_option backward.isDefEq.respectTransparency.types false in
/-- The TensorCore call over the thread state "every unscoped buffer at `V c`". -/
def reg (hout : ∀ c, Vp c main_v4 = stats V c) (hne : ∀ c (b : Ref sig .tc), b ≠ main_v4 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := waits V c
  pre c := iprop(unscopedBufs c (V c) ∗ owed₀ c)
  post c := iprop(unscopedBufs c (Vp c) ∗ owed₀ c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owed₀_in V c); iexact HO
    isplitr; · iempintro
    iexact Hrest
  hin c := by
    show iprop(_ ∗ _ ∗ Pipeline.scopedRest spec0 c) ⊢ _
    rw [scopedRest0_eq]
    rw [show (pdats V 0 c).Φ 0 = iprop((∃ g, pt (F := F) c M10 g) ∗ (∃ g, pt (F := F) c M11 g) ∗ (∃ g, pt (F := F) c M12 g)) from rfl]
    iintro ⟨-, -, Hr⟩; iexact Hr
  hout c := by
    show _ ⊢ iprop(_ ∗ _ ∗ Pipeline.scopedRest spec0 c)
    rw [scopedRest0_eq, Pipeline.ownSems0_none]
    rw [show (pdats V 0 c).Φ (Fin.last _) = held c (accAt V c 49 (by rw [N50]; decide)) from rfl]
    unfold held
    iintro ⟨⟨%g0, -, H0⟩, ⟨%g1, -, H1⟩, ⟨%g2, -, H2⟩⟩
    isplitr; · iempintro
    isplitr; · iempintro
    isplitl [H0]; · iexists g0; iexact H0
    isplitl [H1]; · iexists g1; iexact H1
    iexists g2; iexact H2
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg0 (by decide)).symm
        · exact ((pdats V 0 c).arrAt_in 1 rfl _).trans (hne c main_v0 (by decide)).symm
        · exact ((pdats V 0 c).arrAt_in 2 rfl _).trans (hne c main_arg2 (by decide)).symm
        · exact ((pdats V 0 c).arrAt_in 3 rfl _).trans (hne c main_v1 (by decide)).symm
        · exact ((pdats V 0 c).arrAt_in 4 rfl _).trans (hne c main_arg4 (by decide)).symm
        · exact ((pdats V 0 c).arrAt_in 5 rfl _).trans (hne c main_v2 (by decide)).symm
        · exact ((pdats V 0 c).arrAt_in 6 rfl _).trans (hne c main_arg6 (by decide)).symm
        · exact ((pdats V 0 c).arrAt_in 7 rfl _).trans (hne c main_v3 (by decide)).symm
        · exact (final_o V c).trans (hout c).symm)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    iapply (owed₀_out V c _); iexact HO

end Region

end Cert.Proof.KI
end
-- ==== Proof.KIMain.lean ====
/-
  @main of the kernel on the TensorCore: the host operations, the TensorCore call, the host operations that pad the
  graph numbers, the SparseCore call; and the program's run, with what every result array holds at the end.
-/
module

public import proofs.«01_k».proof.Proof.KICall
public import proofs.«01_k».proof.Proof.KISeg
public import Idealize.ShloMosaic.Lib.Pipeline.RegionsLoop
public import Idealize.ShloMosaic.Lib.Pipeline.Value
public import Idealize.ShloMosaic.Lib.Pipeline.FrameBody
public import Idealize.ShloMosaic.Lib.StableHlo.RunRead
public import Idealize.ShloMosaic.Lib.Routing.OpsOne
public import Idealize.ShloMosaic.Lib.Routing.OpsOrder

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (Dat Cfg Window BodyObligation)

/-! ## @main's two straight lines -/

abbrev ops₁ : List (HloOp τ sig (Elt F)) :=
  [ StableHlo.reshape main_arg1 main_v0 (rfl : (.i32 : EltTy) = .i32) shapeCasts_S100000_S50x1x2000,
    StableHlo.reshape main_arg3 main_v1 (rfl : (.f32 : EltTy) = .f32) shapeCasts_S64_S1x64,
    StableHlo.reshape main_arg5 main_v2 (rfl : (.f32 : EltTy) = .f32) shapeCasts_S1_S1x1,
    StableHlo.reshape main_arg7 main_v3 (rfl : (.f32 : EltTy) = .f32) shapeCasts_S128_S1x128 ]

abbrev ops₂ : List (HloOp τ sig (Elt F)) :=
  [ StableHlo.nullary main_c (constantI S_ 32 0#32),
    StableHlo.unary main_c main_v5 (broadcastInDim S1280x80 ![] bcast_S_S1280x80 : (⟨S_, .i32⟩ : BufTy).Contents (Elt F) → (⟨S1280x80, .i32⟩ : BufTy).Contents (Elt F)),
    StableHlo.reshape main_arg1 main_v6 (rfl : (.i32 : EltTy) = .i32) shapeCasts_S100000_S1250x80,
    StableHlo.nullary main_c_0 (constantI S_ 32 0#32),
    StableHlo.unary main_c_0 main_v7 (broadcastInDim S1 ![] bcast_S_S1 : (⟨S_, .i32⟩ : BufTy).Contents (Elt F) → (⟨S1, .i32⟩ : BufTy).Contents (Elt F)),
    StableHlo.ternary main_v5 main_v7 main_v6 main_v8 ((fun x i u => Host.scatter scatter_S1280x80_S1_S1250x80_01_n_0_0 (fun _ b => b) x i u) : (⟨S1280x80, .i32⟩ : BufTy).Contents (Elt F) → (⟨S1, .i32⟩ : BufTy).Contents (Elt F) → (⟨S1250x80, .i32⟩ : BufTy).Contents (Elt F) → (⟨S1280x80, .i32⟩ : BufTy).Contents (Elt F)) ]

theorem main_eq (d : Dev nD) : main (F := F) d
    = (StableHlo.seq ops₁ >>= fun _ => (Prog.lift (.customCall (SparseCore.inner (Pipeline.entry 0)) ()) >>= fun _ =>
        (StableHlo.seq ops₂ >>= fun _ => (K (F := F)).run d 0 >>= fun _ => pure ⟨⟩))) := by
  simp only [main, StableHlo.seq, bind_assoc, pure_bind]

/-- The buffers @main holds: the TensorCore's unscoped ones. -/
abbrev bufs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (d.tc : Thread nD τ) bufs W := by
  unfold unscopedBufs StableHlo.held bufs StableHlo.tcRefs
  rw [Finset.filter_map, bigSep_map]; rfl

theorem mem_bufs (b : Ref sig .tc) (hb : ¬ b.isScoped) : (Proc.devRef .tc b : DevRef τ sig) ∈ bufs :=
  Finset.mem_filter.mpr ⟨StableHlo.devRef_mem_tcRefs b, hb⟩

theorem ops₁_bufs (op) (hop : op ∈ (ops₁ (F := F))) : op.bufs ⊆ bufs := by
  have h : (ops₁ (F := F)).Forall fun op => op.bufs ⊆ StableHlo.tcRefs τ sig :=
    ⟨StableHlo.reshape_bufs_sub .., StableHlo.reshape_bufs_sub .., StableHlo.reshape_bufs_sub .., StableHlo.reshape_bufs_sub ..⟩
  intro b hb
  exact Finset.mem_filter.mpr ⟨List.forall_iff_forall_mem.mp h op hop hb, by rw [op.no_scoped b hb]; decide⟩
theorem ops₂_bufs (op) (hop : op ∈ (ops₂ (F := F))) : op.bufs ⊆ bufs := by
  have h : (ops₂ (F := F)).Forall fun op => op.bufs ⊆ StableHlo.tcRefs τ sig :=
    ⟨StableHlo.nullary_bufs_sub .., StableHlo.unary_bufs_sub .., StableHlo.reshape_bufs_sub .., StableHlo.nullary_bufs_sub ..,
      StableHlo.unary_bufs_sub .., StableHlo.ternary_bufs_sub ..⟩
  intro b hb
  exact Finset.mem_filter.mpr ⟨List.forall_iff_forall_mem.mp h op hop hb, by rw [op.no_scoped b hb]; decide⟩
theorem ops₁_fresh (op) (hop : op ∈ (ops₁ (F := F))) : op.fresh = ∅ := by
  have h : (ops₁ (F := F)).Forall fun op => op.fresh = ∅ := ⟨rfl, rfl, rfl, rfl⟩
  exact List.forall_iff_forall_mem.mp h op hop
theorem ops₂_fresh (op) (hop : op ∈ (ops₂ (F := F))) : op.fresh = ∅ := by
  have h : (ops₂ (F := F)).Forall fun op => op.fresh = ∅ := ⟨rfl, rfl, rfl, rfl, rfl, rfl⟩
  exact List.forall_iff_forall_mem.mp h op hop

/-! ## The contents at each point of @main -/

variable (m : (ℓ : Loc nD τ sig) → Buf (Elt F) ℓ) (ρ : Dev nD → PrngReg)

/-- At the launch, -/
def V0 (d : Dev nD) : Valuation τ sig (Elt F) := fun b => m (d, b)
/-- at the TensorCore call, -/
def V1 (d : Dev nD) : Valuation τ sig (Elt F) := StableHlo.after ops₁ (V0 m d)
/-- read at the TensorCore's references, -/
def R1 (c : Dev nD) (b : Ref sig .tc) : Buf (Elt F) ((c.tc : Thread nD τ).loc b) := V1 m c (Proc.devRef .tc b)
/-- after it, -/
def V2 (d : Dev nD) : Valuation τ sig (Elt F) := Function.update (V1 m d) (Proc.devRef .tc main_v4) (stats (R1 m) d)
def R2 (c : Dev nD) (b : Ref sig .tc) : Buf (Elt F) ((c.tc : Thread nD τ).loc b) := V2 m c (Proc.devRef .tc b)
/-- at the SparseCore call. -/
def V3 (d : Dev nD) : Valuation τ sig (Elt F) := StableHlo.after ops₂ (V2 m d)

theorem R2_out (c : Dev nD) : R2 m c main_v4 = stats (R1 m) c := by
  unfold R2 V2; exact Function.update_self ..
theorem R2_ne (c : Dev nD) (b : Ref sig .tc) (hb : b ≠ main_v4) : R2 m c b = R1 m c b := by
  unfold R2 V2 R1; exact Function.update_of_ne (fun h => hb (Proc.devRef_injective _ h)) ..

theorem V1_unwritten (d : Dev nD) {r : Ref sig .tc} (hr : r ∉ [main_v0, main_v1, main_v2, main_v3]) :
    V1 m d (Proc.devRef .tc r) = V0 m d (Proc.devRef .tc r) :=
  StableHlo.after_unwritten [main_v0, main_v1, main_v2, main_v3] rfl hr _
theorem V3_unwritten (d : Dev nD) {r : Ref sig .tc} (hr : r ∉ [main_c, main_v5, main_v6, main_c_0, main_v7, main_v8]) :
    V3 m d (Proc.devRef .tc r) = V2 m d (Proc.devRef .tc r) :=
  StableHlo.after_unwritten [main_c, main_v5, main_v6, main_c_0, main_v7, main_v8] rfl hr _

/-- A buffer @main's host operations and its TensorCore call leave alone is at its launch contents. -/
theorem V3_launch (d : Dev nD) {r : Ref sig .tc}
    (h1 : r ∉ [main_v0, main_v1, main_v2, main_v3]) (h2 : r ≠ main_v4) (h3 : r ∉ [main_c, main_v5, main_v6, main_c_0, main_v7, main_v8]) :
    V3 m d (Proc.devRef .tc r) = m (d, Proc.devRef .tc r) :=
  (V3_unwritten m d h3).trans ((R2_ne m d r h2).trans (V1_unwritten m d h1))

theorem V3_v4 (d : Dev nD) : V3 m d (Proc.devRef .tc main_v4) = stats (R1 m) d :=
  (V3_unwritten m d (by decide)).trans (R2_out m d)

/-- The graph numbers of device `d`'s launch. -/
abbrev ids (d : Dev nD) : S100000.Idx → BitVec 32 := m ((d.tc : Thread nD τ).loc main_arg1)
/-- The padded graph numbers. -/
def padded (b : S100000.Idx → BitVec 32) : S1280x80.Idx → BitVec 32 :=
  Host.scatter scatter_S1280x80_S1_S1250x80_01_n_0_0 (fun _ b => b) (broadcastInDim S1280x80 ![] bcast_S_S1280x80 (constantI S_ 32 0#32))
    (broadcastInDim S1 ![] bcast_S_S1 (constantI S_ 32 0#32)) (shapeCast S1250x80 b shapeCasts_S100000_S1250x80)

theorem V3_v8 (d : Dev nD) : V3 m d (Proc.devRef .tc main_v8) = padded (ids m d) := by
  have h6 : V2 m d (Proc.devRef .tc main_arg1) = m (d, Proc.devRef .tc main_arg1) :=
    (R2_ne m d main_arg1 (by decide)).trans (V1_unwritten m d (by decide))
  unfold V3
  after_results_simp
  exact congrArg padded h6

/-- What the launch memory must satisfy: every graph number is one of the 128 graphs. -/
def PreOK : Prop := ∀ d j, (ids m d j).toNat < 128

theorem padded_lt (b : S100000.Idx → BitVec 32) (h : ∀ j, (b j).toNat < 128) (j : S1280x80.Idx) : (padded b j).toNat < 128 :=
  Routing.scatter_forall _ _ (fun v : BitVec 32 => v.toNat < 128) (fun _ _ _ h => h) _ _ _ (fun _ => show (0#32 : BitVec 32).toNat < 128 by decide) (fun _ => h _) j

/-- The SparseCore call's buffers. -/
def kc (hpre : PreOK m) (d : Dev nD) : Call F where
  cv := stats (R1 m) d
  iv := padded (ids m d)
  ov := m (oLoc d)
  ok := padded_lt _ (hpre d)

theorem kc_cv (hpre : PreOK m) (d : Dev nD) : (kc m hpre d).cv = stats (R1 m) d := rfl
theorem kc_iv (hpre : PreOK m) (d : Dev nD) : (kc m hpre d).iv = padded (ids m d) := by simp only [kc]
theorem kc_ov (hpre : PreOK m) (d : Dev nD) : (kc m hpre d).ov = m (oLoc d) := rfl

/-- The contents at the end. -/
def V4 (hpre : PreOK m) (d : Dev nD) : Valuation τ sig (Elt F) := Function.update (V3 m d) (Proc.devRef .tc main_v9) (gOut (kc m hpre d))

/-! ## The launch's ghost state -/

theorem pinj : Function.Injective (Pipeline.cellOf (nD := nD) (τ := τ) (Pipeline.pin (pcfgs (F := F)) adm)) := cellOf_inj

/-- The element launched with: the calls' handshakes' rounds and the pipeline's. -/
def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- The pipeline's ghost state of device `d`. -/
def G (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

theorem bigSep_emp' {I : Type} (s : Finset I) : (bigSep s fun _ => iprop(emp)) = (iprop(emp) : sProp 𝕄) := bigSep_emp_const s

theorem hu₀ (k : Dev nD → Call F) : (ownU (u₀ (F := F)) : sProp 𝕄)
    ⊢ |={Set.univ}=> iprop(BI.own (EH (initOf (K (F := F)).hsCells (K (F := F)).hsToks)) ∗ (bigSep Finset.univ fun d : Dev nD => G (F := F) d)
      ∗ bigSep Finset.univ fun thr : Thread nD τ => bigSep Finset.univ fun q : Fin 1 => (P k).x q thr) := by
  unfold u₀
  iintro Hu
  ihave H := (ownU_pair _ _) $$ Hu
  icases H with ⟨HH, HR⟩
  have hR : (BI.own (embR (initOf (Pipeline.cells (Pipeline.pin (pcfgs (F := F)) adm) pinj) (Pipeline.launchToks (Pipeline.pin (pcfgs (F := F)) adm) pinj), (1 : Counters))) : sProp 𝕄)
      ⊢ BI.own (EP (initOf (Pipeline.cells (Pipeline.pin (pcfgs (F := F)) adm) pinj) (Pipeline.launchToks (Pipeline.pin (pcfgs (F := F)) adm) pinj))) :=
    (own_pair_emb _ _ _).trans sep_elim_left
  ihave HP := hR $$ HR
  imod (Pipeline.fund_ghost (Pipeline.pin (pcfgs (F := F)) adm) EP pinj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (P k).x q thr)
    = bigSep Finset.univ fun _ : Thread nD τ => (iprop(emp) : sProp 𝕄) from
    bigSep_congr fun _ _ => bigSep_univ_of_subsingleton (0 : Fin 1), bigSep_emp']
  iempintro

/-! ## @main on the TensorCore -/

theorem lift_entry : (SparseCore.liftProg (Q := 1) (Prog.lift (.customCall (Pipeline.entry 0) ()) : Prog (TpuEff nD τ sig (Elt F) (ΛP (F := F)) .tc) PUnit))
   = Prog.lift (.customCall (SparseCore.inner (Pipeline.entry 0)) ()) := rfl

theorem wp_lifted (d : Dev nD) (Φ : PUnit → sProp 𝕄) : wp frame (wpE (D (F := F)) 𝒱 (SparseCore.T d : Thread nD τ) none) Set.univ (Prog.lift (.customCall (Pipeline.entry 0) ()) : Prog (TpuEff nD τ sig (Elt F) (ΛP (F := F)) .tc) PUnit) Φ
   ⊢ wp frame (wpE ((K (F := F)).defs (D (F := F))) 𝒱 (SparseCore.T d) none) Set.univ
          (SparseCore.liftProg (Q := 1) (Prog.lift (.customCall (Pipeline.entry 0) ()) : Prog (TpuEff nD τ sig (Elt F) (ΛP (F := F)) .tc) PUnit)) Φ :=
  ((K (F := F)).wp_liftProg (D (F := F)) 𝒱 (SparseCore.T d) Set.univ none (Prog.lift (.customCall (Pipeline.entry 0) ())) Φ)

theorem wp_entry (d : Dev nD) (Φ : PUnit → sProp 𝕄) : wp frame (wpE (D (F := F)) 𝒱 (SparseCore.T d : Thread nD τ) none) Set.univ (Prog.lift (.customCall (Pipeline.entry 0) ()) : Prog (TpuEff nD τ sig (Elt F) (ΛP (F := F)) .tc) PUnit) Φ
   ⊢ wp frame (wpE ((K (F := F)).defs (D (F := F))) 𝒱 (SparseCore.T d) none) Set.univ
          (Prog.lift (.customCall (SparseCore.inner (Pipeline.entry 0)) ())) Φ := by
  rw [← lift_entry]; exact wp_lifted d Φ

theorem reg_pre (d : Dev nD) : (reg (R1 m) (R2 m) (R2_out m) (R2_ne m)).pre d = iprop(unscopedBufs d (R1 m d) ∗ owed₀ d) := rfl
theorem reg_post (d : Dev nD) : (reg (R1 m) (R2 m) (R2_out m) (R2_ne m)).post d = iprop(unscopedBufs d (R2 m d) ∗ owed₀ d) := rfl

set_option backward.isDefEq.respectTransparency.types false in
theorem region_wp [∀ e, Nonempty (Elt F e)] (d : Dev nD) (Φ : PUnit → sProp 𝕄) :
    iprop((iprop(boundary (d.tc : Thread nD τ) ∗ (unscopedBufs d (R2 m d) ∗ owed₀ d)) -∗ Φ ⟨⟩)
        ∗ boundary (d.tc : Thread nD τ) ∗ (unscopedBufs d (R1 m d) ∗ owed₀ d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  refine BIBase.Entails.trans ?_ (wp_entry d Φ)
  have h := Pipeline.RegionSeg.wp (pcfgs (F := F)) adm (pdats (R1 m)) none pinj EP defs₀ 𝒱₀ (K (F := F)).L (K (F := F)).lev
    (reg (R1 m) (R2 m) (R2_out m) (R2_ne m)) d none (fun _ h => nomatch h) (fun x => .ret x) Φ
  change _ ⊢ wp frame (wpE (Pipeline.defs (pcfgs (F := F)) defs₀) 𝒱₀.lift (d.tc : Thread nD τ) none) Set.univ (.op (.customCall (Pipeline.entry 0) ()) fun x => .ret x) Φ
  refine BIBase.Entails.trans ?_ h
  unfold G
  rw [reg_pre, reg_post, bigSep_univ_of_subsingleton (0 : Fin 1), bigSep_univ_of_subsingleton (0 : Fin 1)]
  iintro ⟨Hk, Hb, Hpre, Hl, Hg, Ht⟩
  isplitl [Hk]
  · iintro H
    rw [wp_ret]; imodintro
    iapply Hk; iexact H
  isplitl [Hb]; · iexact Hb
  isplitl [Hpre]; · iexact Hpre
  isplitl [Hl]; · iexact Hl
  isplitl [Hg] <;> iassumption

/-- The three buffers of the SparseCore call out of all @main holds, and back. -/
abbrev tri : Finset (DevRef τ sig) := {Proc.devRef .tc main_v4, Proc.devRef .tc main_v8, Proc.devRef .tc main_v9}
theorem tri_sub : tri ⊆ bufs := by
  intro b hb
  simp only [tri, Finset.mem_insert, Finset.mem_singleton] at hb
  rcases hb with rfl | rfl | rfl <;> exact mem_bufs _ (by decide)
theorem held_tri (d : Dev nD) (W : Valuation τ sig (Elt F)) : (StableHlo.held (d.tc : Thread nD τ) tri W : sProp 𝕄)
    = iprop((cLoc d ↦{fullShare} (W (Proc.devRef .tc main_v4) : Buf (Elt F) (cLoc d))) ∗ (iLoc d ↦{fullShare} (W (Proc.devRef .tc main_v8) : Buf (Elt F) (iLoc d)))
        ∗ (oLoc d ↦{fullShare} (W (Proc.devRef .tc main_v9) : Buf (Elt F) (oLoc d)))) := by
  unfold StableHlo.held tri
  rw [SparseCore.bigSep_insert' (by decide), SparseCore.bigSep_insert' (by decide), bigSep_singleton]

/-- What the TensorCore holds of the launch beside what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_zero (d : Dev nD) : ((K (F := F)).tcSt EH d 0 : sProp 𝕄) = iprop(owed₀ d ∗ tcRest d) := rfl

theorem tri_V3 (hpre : PreOK m) (d : Dev nD) : (StableHlo.held (d.tc : Thread nD τ) tri (V3 m d) : sProp 𝕄)
    = bigSep Finset.univ fun c : Fin ((K (F := F)).nCore 0) => (P (kc m hpre)).st 0 d c := by
  rw [held_tri, st0_eq, V3_v4, V3_v8, V3_launch m d (r := main_v9) (by decide) (by decide) (by decide), kc_cv, kc_iv, kc_ov]

theorem V4_ne (hpre : PreOK m) (d : Dev nD) {b : DevRef τ sig} (h : b ≠ Proc.devRef .tc main_v9) : V4 m hpre d b = V3 m d b := Function.update_of_ne h ..
theorem V4_out (hpre : PreOK m) (d : Dev nD) : V4 m hpre d (Proc.devRef .tc main_v9) = gOut (kc m hpre d) := Function.update_self ..

theorem tri_V4 (hpre : PreOK m) (d : Dev nD) : (StableHlo.held (d.tc : Thread nD τ) tri (V4 m hpre d) : sProp 𝕄)
    = bigSep Finset.univ fun c : Fin ((K (F := F)).nCore 0) => (P (kc m hpre)).dn 0 d c := by
  rw [held_tri, dn0_eq, V4_out, V4_ne m hpre d (b := Proc.devRef .tc main_v4) (by decide), V4_ne m hpre d (b := Proc.devRef .tc main_v8) (by decide), V3_v4, V3_v8, kc_cv, kc_iv]

theorem rest_V4 (hpre : PreOK m) (d : Dev nD) : (StableHlo.held (d.tc : Thread nD τ) (bufs \ tri) (V4 m hpre d) : sProp 𝕄)
    = StableHlo.held (d.tc : Thread nD τ) (bufs \ tri) (V3 m d) :=
  StableHlo.held_congr (d.tc : Thread nD τ) fun b hb => V4_ne m hpre d fun h => (Finset.mem_sdiff.mp hb).2 (by rw [h]; decide)

def FIN (hpre : PreOK m) (d : Dev nD) : sProp 𝕄 := StableHlo.held (d.tc : Thread nD τ) bufs (V4 m hpre d)

set_option maxRecDepth 16384 in
theorem hmain [∀ e, Nonempty (Elt F e)] (hpre : PreOK m) (κ : GSem nD τ sig → ℕ) (d : Dev nD) :
    iprop((K (F := F)).ctx EH (P (kc m hpre)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  rw [main_eq]
  unfold SparseCore.Cfg.tcRes SparseCore.Cfg.tcEnd
  rw [show (unscopedBufs d (fun b => m ((SparseCore.T d).loc b)) : sProp 𝕄) = StableHlo.held (d.tc : Thread nD τ) bufs (V0 m d) from unscopedBufs_held d (V0 m d)]
  iintro ⟨#Hctx, Hst, ⟨Hb, Hh, Hts, -⟩, HG⟩
  iapply (StableHlo.wp_seq (defs := (K (F := F)).defs (D (F := F))) (𝒱 := 𝒱) (bd := none) (E := Set.univ) d bufs _ (ops₁ (F := F)) ops₁_bufs ops₁_fresh (V0 m d)) $$ [Hb Hh]
  · isplitl [Hb] <;> iassumption
  iintro ⟨Hb, Hh⟩
  rw [wp_bind]
  ihave Hst' := (Entails.of_eq (tcSt_zero d)) $$ Hst
  icases Hst' with ⟨HO, Hrest⟩
  iapply (region_wp m d)
  isplitr [Hb Hh HO HG]
  swap
  · isplitl [Hb]; · iexact Hb
    isplitl [Hh HO]
    · isplitl [Hh]
      · iapply (Entails.of_eq (unscopedBufs_held d (V1 m d)).symm); iexact Hh
      · iexact HO
    isplitr
    · iapply ((K (F := F)).ctx_levAts κ); iexact Hctx
    iexact HG
  iintro ⟨Hb, Hu, HO⟩
  ihave Hh := (Entails.of_eq (show (unscopedBufs d (R2 m d) : sProp 𝕄) = _ from unscopedBufs_held d (V2 m d))) $$ Hu
  iapply (StableHlo.wp_seq (defs := (K (F := F)).defs (D (F := F))) (𝒱 := 𝒱) (bd := none) (E := Set.univ) d bufs _ (ops₂ (F := F)) ops₂_bufs ops₂_fresh (V2 m d)) $$ [Hb Hh]
  · isplitl [Hb] <;> iassumption
  iintro ⟨Hb, Hh⟩
  ihave Hh' := (Entails.of_eq (show (StableHlo.held (d.tc : Thread nD τ) bufs (StableHlo.after ops₂ (V2 m d)) : sProp 𝕄) = _ from StableHlo.held_sub_split (d.tc : Thread nD τ) tri_sub (V3 m d))) $$ Hh
  icases Hh' with ⟨H3, Hr⟩
  ihave H3' := (Entails.of_eq (tri_V3 m hpre d)) $$ H3
  rw [wp_bind]
  iapply ((K (F := F)).wp_run (D (F := F)) 𝒱 (EH := EH) (P := P (kc m hpre)) κ d 0)
  isplitr; · iexact Hctx
  isplitl [HO Hrest]
  · iapply (Entails.of_eq (tcSt_zero d).symm)
    isplitl [HO]; · iexact HO
    iexact Hrest
  isplitl [H3']; · iexact H3'
  iintro ⟨Hst, Hdn⟩
  rw [wp_pure]
  imodintro
  isplitl [Hst]; · iexact Hst
  isplitr [Hb Hts]
  · unfold FIN
    rw [StableHlo.held_sub_split (d.tc : Thread nD τ) tri_sub (V4 m hpre d), rest_V4, tri_V4]
    isplitl [Hdn] <;> iassumption
  isplitl [Hb] <;> iassumption

def fq (hpre : PreOK m) (d : Dev nD) (s' : Phys nD τ sig (Elt F)) : Prop := ∀ b ∈ bufs, s'.mem.mem (d, b) = V4 m hpre d b

theorem hfin (hpre : PreOK m) (d : Dev nD) (s' : Phys nD τ sig (Elt F)) : iprop(FIN m hpre d ∗ SI s') ⊢ (⌜fq m hpre d s'⌝ : sProp 𝕄) := by
  unfold FIN StableHlo.held
  iintro ⟨H, HSI⟩
  ihave %h := (SI_pointsTo_bufs_agree (qs := fun _ => fullShare) bufs) $$ [HSI H]
  · isplitl [HSI]; · iexact HSI
    iexact H
  ipureintro
  exact fun b hb => h b hb

/-! ## The program's run -/

/-- The result array at the end: at each node the context row of its graph. -/
def outVal (hpre : PreOK m) (d : Dev nD) : S100000x128.Idx → Elt F .f32 := gOut (kc m hpre d)

/-- Every buffer @main holds is at its final contents, and every counter is zero. -/
theorem run_bufs [∀ e, Nonempty (Elt F e)] (hpre : PreOK m) :
    θ_run (Cert.KernelIdeal.defs (F := F)) (Cert.KernelIdeal.threads (F := F)) ⟨m, fun _ => 0, ρ⟩
      fun r => (∀ d : Dev nD, ∀ b ∈ bufs, r.2.mem (d, b) = V4 m hpre d b) ∧ r.2.sem = fun _ => 0 :=
  SparseCore.Cfg.θ_run_sc_quiescent (K := K (F := F)) (D := D (F := F)) (𝒱 := 𝒱) (EH := EH) (P := P (kc m hpre)) (A := ∅) facts v₀
    (fun q hq => match q with | 0 => nomatch hq)
    (fun q _ => match q with | 0 => tileObl (kc m hpre) facts)
    (fun q _ => match q with | 0 => SparseCore.Cfg.VecSplit.of_plain (vecSplit (kc m hpre)))
    m ρ main (fun d => G d) (FIN m hpre) (u₀ (F := F)) (sep_elim_left.trans (hu₀ (kc m hpre))) (hmain m ρ hpre) (fq m hpre) (hfin m hpre) _ (fun _ h hz => ⟨h, hz⟩)

theorem run [∀ e, Nonempty (Elt F e)] (hpre : PreOK m) :
    θ_run (Cert.KernelIdeal.defs (F := F)) (Cert.KernelIdeal.threads (F := F)) ⟨m, fun _ => 0, ρ⟩
      fun r => (∀ c : Dev nD, r.2.mem ((c.tc : Thread nD τ).loc main_v9) = outVal m hpre c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0 :=
  (θ_run Cert.KernelIdeal.defs _ _).mono (fun r h => ⟨fun c => by
    have arg (b : Ref sig .tc) (hb : ¬ b.isScoped) (h0 : b ≠ main_v9) (h1 : b ∉ [main_v0, main_v1, main_v2, main_v3]) (h2 : b ≠ main_v4)
        (h3 : b ∉ [main_c, main_v5, main_v6, main_c_0, main_v7, main_v8]) : r.2.mem ((c.tc : Thread nD τ).loc b) = m ((c.tc : Thread nD τ).loc b) :=
      (h.1 c _ (mem_bufs b hb)).trans ((V4_ne m hpre c fun e => h0 (Proc.devRef_injective _ e)).trans (V3_launch m c h1 h2 h3))
    exact ⟨(h.1 c _ (mem_bufs main_v9 (by decide))).trans (V4_out m hpre c),
      arg main_arg0 (by decide) (by decide) (by decide) (by decide) (by decide), arg main_arg1 (by decide) (by decide) (by decide) (by decide) (by decide),
      arg main_arg2 (by decide) (by decide) (by decide) (by decide) (by decide), arg main_arg3 (by decide) (by decide) (by decide) (by decide) (by decide),
      arg main_arg4 (by decide) (by decide) (by decide) (by decide) (by decide), arg main_arg5 (by decide) (by decide) (by decide) (by decide) (by decide),
      arg main_arg6 (by decide) (by decide) (by decide) (by decide) (by decide), arg main_arg7 (by decide) (by decide) (by decide) (by decide) (by decide)⟩, h.2⟩)
    (run_bufs m ρ hpre)

end Cert.Proof.KI
end
-- ==== Proof.Facts.lean ====
module

public import proofs.«01_k».proof.Proof.KMain
public import proofs.«01_k».proof.Proof.KIMain
public import proofs.«01_k».proof.Proof.Gen.Pre_batch_in_graphs
public import proofs.«01_k».proof.Proof.Gen.Pre_scores_finite
public import Idealize.ShloMosaic.Lib.ReduceAll
public import Idealize.ShloMosaic.PureOps.Ideal

/-! What the two preconditions say of the argument arrays: the graph words lie in `[0, 128)`, and the second one adds that
the score layer's weights and bias are real numbers. -/

@[expose] public section

noncomputable section

namespace Cert.Proof

open Idealize.ShloMosaic

theorem and_one (p q : BitVec 1) (h : IntOp.andi p q = 1#1) : p = 1#1 ∧ q = 1#1 := IntOp.andi_eq_one.1 h

/-- A word that is at least 0 and below 128, both compared as signed words, is a natural below 128. -/
theorem word_lt (v : BitVec 32) (h0 : IntOp.cmpi .sge v 0#32 = 1#1) (h1 : IntOp.cmpi .slt v 128#32 = 1#1) : v.toNat < 128 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

/-- Arrays that `batch_in_graphs` accepts have every graph word below 128. -/
theorem ids_of_batch {F : FTy → Type} [FloatOps F] (a0 a1 a2 a3 a4 a5 a6 a7)
    (h : Cert.Pre_batch_in_graphs.fn (F := F) a0 a1 a2 a3 a4 a5 a6 a7 = fun _ => 1#1) (j : Cert.Pre_batch_in_graphs.S100000.Idx) :
    (a1 j).toNat < 128 := by
  haveI : Subsingleton Cert.Pre_batch_in_graphs.S_.Idx := ⟨fun a b => funext fun i => i.elim0⟩
  have e := congrFun h (fun i => i.elim0)
  dsimp only [Cert.Pre_batch_in_graphs.fn] at e
  obtain ⟨e0, e1⟩ := and_one _ _ e
  exact word_lt _ (Host.reduce_andi_all _ _ _ _ _ e0 j) (Host.reduce_andi_all _ _ _ _ _ e1 j)

/-- What `scores_finite` says of the arrays it takes. -/
structure Tame (a1 : Cert.Pre_scores_finite.S100000.Idx → BitVec 32) (a4 : Cert.Pre_scores_finite.S64x1.Idx → EReal)
    (a5 : Cert.Pre_scores_finite.S1.Idx → EReal) : Prop where
  ids : ∀ j, (a1 j).toNat < 128
  w : ∀ j, a4 j ≠ ⊤ ∧ a4 j ≠ ⊥
  b : ∀ j, a5 j ≠ ⊤ ∧ a5 j ≠ ⊥

/-- An extended real whose absolute value is below the constant `0x7F800000` is a real number. -/
theorem real_of_lt (x : Ideal .f32) (h : FloatOps.cmpf (F := Ideal) (φ := .f32) .olt (FloatOps.hostAbsf x) (FloatOps.ofBits .f32 0x7F800000#32) = 1#1) :
    x ≠ ⊤ ∧ x ≠ ⊥ := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have ofBool_eq_one (p : Bool) : (BitVec.ofBool p = 1#1) ↔ p = true := by cases p <;> decide
  have h2 : max x (-x) < ⊤ := by
    simpa only [Ideal.cmp, ofBool_eq_one, decide_eq_true_eq] using h'
  constructor
  · rintro rfl; simp at h2
  · rintro rfl; simp at h2

theorem tame_of_pre (a0 a1 a2 a3 a4 a5 a6 a7)
    (h : Cert.Pre_scores_finite.fn (F := Ideal) a0 a1 a2 a3 a4 a5 a6 a7 = fun _ => 1#1) : Tame a1 a4 a5 := by
  haveI : Subsingleton Cert.Pre_scores_finite.S_.Idx := ⟨fun a b => funext fun i => i.elim0⟩
  have e := congrFun h (fun i => i.elim0)
  dsimp only [Cert.Pre_scores_finite.fn, Cert.Pre_scores_finite.fn_part1] at e
  obtain ⟨e, e3⟩ := and_one _ _ e
  obtain ⟨e, e2⟩ := and_one _ _ e
  obtain ⟨e0, e1⟩ := and_one _ _ e
  exact ⟨fun j => word_lt _ (Host.reduce_andi_all _ _ _ _ _ e0 j) (Host.reduce_andi_all _ _ _ _ _ e1 j),
    fun j => real_of_lt _ (Host.reduce_andi_all _ _ _ _ _ e2 j), fun j => real_of_lt _ (Host.reduce_andi_all _ _ _ _ _ e3 j)⟩

end Cert.Proof
-- ==== Proof.Frames.lean ====
module

public import proofs.«01_k».proof.Defs
public import proofs.«01_k».proof.Proof.Facts
public import proofs.«01_k».proof.Proof.Gen.ReferenceIdeal.Run
public import Idealize.ShloMosaic.Lib.Quiescent

/-! The frames of the three programs and the one ledger entry. -/

@[expose] public section

noncomputable section

namespace Cert.Proof

open Idealize.ShloMosaic Idealize.SL.Sem

theorem preK (m : (ℓ : Loc Cert.Kernel.nD Cert.Kernel.τ Cert.Kernel.sig) → Buf (Elt Bits) ℓ) (h : Cert.Pre_Kernel m) :
    K.PreOK (F := Bits) m := fun d j => ids_of_batch (F := Bits) _ _ _ _ _ _ _ _ (h d) j

theorem preKI (m : (ℓ : Loc Cert.KernelIdeal.nD Cert.KernelIdeal.τ Cert.KernelIdeal.sig) → Buf (Elt Ideal) ℓ) (h : Cert.Pre_KernelIdeal m) :
    KI.PreOK (F := Ideal) m := fun d j => ids_of_batch (F := Ideal) _ _ _ _ _ _ _ _ (h d) j

theorem tameKI (m : (ℓ : Loc Cert.KernelIdeal.nD Cert.KernelIdeal.τ Cert.KernelIdeal.sig) → Buf (Elt Ideal) ℓ)
    (h : Cert.Pre_KernelIdeal_scores_finite m) (d : Dev Cert.KernelIdeal.nD) :
    Tame (m ((d.tc).loc Cert.KernelIdeal.main_arg1)) (m ((d.tc).loc Cert.KernelIdeal.main_arg4)) (m ((d.tc).loc Cert.KernelIdeal.main_arg5)) :=
  tame_of_pre _ _ _ _ _ _ _ _ (h d)

theorem preKI' (m : (ℓ : Loc Cert.KernelIdeal.nD Cert.KernelIdeal.τ Cert.KernelIdeal.sig) → Buf (Elt Ideal) ℓ)
    (h : Cert.Pre_KernelIdeal_scores_finite m) : KI.PreOK (F := Ideal) m := fun d j => (tameKI m h d).ids j

theorem frame_p : Cert.quiescent_Kernel := fun m ρ hpre =>
  (θ_run Cert.Kernel.defs _ _).mono (fun _ h => ⟨fun c => (h.1 c).2, h.2⟩) (K.run (F := Bits) m ρ (preK m hpre))

theorem frame_pi : Cert.quiescent_KernelIdeal := fun m ρ hpre =>
  (θ_run Cert.KernelIdeal.defs _ _).mono (fun _ h => ⟨fun c => (h.1 c).2, h.2⟩) (KI.run (F := Ideal) m ρ (preKI m hpre))

theorem frame_pi' : Cert.quiescent_KernelIdeal_pre_scores_finite := fun m ρ hpre =>
  (θ_run Cert.KernelIdeal.defs _ _).mono (fun _ h => ⟨fun c => (h.1 c).2, h.2⟩) (KI.run (F := Ideal) m ρ (preKI' m hpre))

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri' : Cert.quiescent_ReferenceIdeal_pre_scores_finite := fun m ρ _ => frame_ri m ρ trivial

theorem preserves : Cert.preserves_Kernel_KernelIdeal :=
  IdealRules.named_const.statement Cert.KernelIdeal.κ "neg" .f32 0xF149F2CA#32 ⊥ rfl

end Cert.Proof
-- ==== Proof.Soft.lean ====
module

public import Idealize.ShloMosaic.PureOps.Ideal
public import Mathlib.Data.EReal.Operations
public import Mathlib.Data.EReal.Inv
public import Mathlib.Data.Finset.Lattice.Fold
public import Mathlib.Algebra.BigOperators.Group.Finset.Basic

/-! The softmax of a set of nodes, taken block by block, over the extended reals.

`sup σ A` is the greatest score of the nodes in `A` (minus infinity of none) and `wsum σ x A m` the sum over `A` of
`exp (σ n - m) * x n`. A running pass that keeps the greatest score so far and rescales its sums when it rises ends with the
same sums as one pass over all nodes. -/

@[expose] public section

noncomputable section

namespace Cert.Proof.Soft

open Idealize.ShloMosaic

variable {ι : Type} [DecidableEq ι]

/-- A sum times a nonnegative real number, term by term; the terms may be infinite. -/
theorem sum_mul_of_nonneg (A : Finset ι) (f : ι → EReal) (c : EReal) (h0 : 0 ≤ c) (ht : c ≠ ⊤) :
    (∑ n ∈ A, f n) * c = ∑ n ∈ A, f n * c := by
  induction A using Finset.induction_on with
  | empty => simp
  | insert a A ha ih =>
    rw [Finset.sum_insert ha, Finset.sum_insert ha, EReal.right_distrib_of_nonneg_of_ne_top h0 ht, ih]

/-- The sum of real numbers, taken among the extended reals. -/
theorem coe_sum {κ : Type} (A : Finset κ) (g : κ → ℝ) : ((∑ k ∈ A, g k : ℝ) : EReal) = ∑ k ∈ A, (g k : EReal) := by
  classical
  induction A using Finset.induction_on with
  | empty => simp
  | insert a A ha ih => rw [Finset.sum_insert ha, Finset.sum_insert ha, EReal.coe_add, ih]

/-- The greatest score of the nodes in `A`; minus infinity of none. -/
def sup (σ : ι → ℝ) (A : Finset ι) : EReal := A.sup fun n => (σ n : EReal)

/-- The sum over `A` of the nodes' weights times their values. -/
def wsum (σ : ι → ℝ) (x : ι → EReal) (A : Finset ι) (m : EReal) : EReal := ∑ n ∈ A, Ideal.exp ((σ n : EReal) - m) * x n

variable (σ : ι → ℝ) (x : ι → EReal)

theorem sup_union (A B : Finset ι) : sup σ (A ∪ B) = max (sup σ A) (sup σ B) := Finset.sup_union

theorem sup_real (A : Finset ι) (hA : A.Nonempty) : ∃ r : ℝ, sup σ A = (r : EReal) := by
  obtain ⟨n, -, h⟩ := Finset.exists_mem_eq_sup A hA fun n => (σ n : EReal)
  exact ⟨σ n, h⟩

/-- The sums taken at one set's greatest score, rescaled, are the sums at a larger set's greatest score. -/
theorem wsum_rescale (A A' : Finset ι) (hs : A ⊆ A') :
    wsum σ x A (sup σ A) * Ideal.exp (sup σ A - sup σ A') = wsum σ x A (sup σ A') := by
  rcases A.eq_empty_or_nonempty with rfl | hA
  · simp [wsum]
  obtain ⟨r, hr⟩ := sup_real σ A hA
  obtain ⟨r', hr'⟩ := sup_real σ A' (hA.mono hs)
  unfold wsum
  rw [hr, hr', ← EReal.coe_sub, Ideal.exp_coe, sum_mul_of_nonneg _ _ _ (by exact_mod_cast (Real.exp_pos _).le) (EReal.coe_ne_top _)]
  refine Finset.sum_congr rfl fun n _ => ?_
  rw [← EReal.coe_sub, ← EReal.coe_sub, Ideal.exp_coe, Ideal.exp_coe, mul_right_comm, ← EReal.coe_mul, ← Real.exp_add]
  rw [show σ n - r + (r - r') = σ n - r' by ring]

theorem wsum_union (A B : Finset ι) (h : Disjoint A B) (m : EReal) :
    wsum σ x (A ∪ B) m = wsum σ x A m + wsum σ x B m := Finset.sum_union h

/-- One step of the running pass: the set `B` joins the set `A`. -/
theorem step (A B : Finset ι) (h : Disjoint A B) :
    wsum σ x A (sup σ A) * Ideal.exp (sup σ A - max (sup σ A) (sup σ B)) + wsum σ x B (max (sup σ A) (sup σ B))
      = wsum σ x (A ∪ B) (sup σ (A ∪ B)) := by
  rw [← sup_union, wsum_rescale σ x A (A ∪ B) Finset.subset_union_left, wsum_union σ x A B h]

/-- The sum of the weights of a set that is not empty is a positive real number. -/
theorem denom_real (A : Finset ι) (hA : A.Nonempty) :
    ∃ d : ℝ, 0 < d ∧ wsum σ (fun _ => 1) A (sup σ A) = (d : EReal) := by
  obtain ⟨r, hr⟩ := sup_real σ A hA
  refine ⟨∑ n ∈ A, Real.exp (σ n - r), Finset.sum_pos (fun n _ => Real.exp_pos _) hA, ?_⟩
  unfold wsum
  rw [hr]
  simp only [mul_one, ← EReal.coe_sub, Ideal.exp_coe]
  exact (coe_sum A fun n => Real.exp (σ n - r)).symm

/-- The weighted sum divided once by the weights' sum is the sum of the terms divided one by one. -/
theorem pooled (A : Finset ι) (hA : A.Nonempty) (d : EReal) (hd : d = wsum σ (fun _ => 1) A (sup σ A)) :
    wsum σ x A (sup σ A) * Ideal.div 1 (if 0 < d then d else 1)
      = ∑ n ∈ A, x n * Ideal.div (Ideal.exp ((σ n : EReal) - sup σ A)) d := by
  obtain ⟨r, hr, e⟩ := denom_real σ A hA
  rw [hd, e, if_pos (by exact_mod_cast hr), Ideal.div_coe hr.ne', one_mul, wsum,
    sum_mul_of_nonneg _ _ _ (by exact_mod_cast (one_div_pos.2 hr).le) (EReal.coe_ne_top _)]
  refine Finset.sum_congr rfl fun n _ => ?_
  rw [Ideal.div_coe hr.ne', mul_comm _ (x n), mul_assoc]

section Block

variable {B : ℕ} (e : Fin B ↪ ι) (mem : Fin B → Prop) [DecidablePred mem]

/-- The members of a block, as nodes. -/
def members : Finset ι := (Finset.univ.filter mem).map e

/-- The greatest masked score of a block. -/
theorem block_max : (Finset.univ : Finset (Fin B)).fold max ⊥ (fun p => if mem p then (σ (e p) : EReal) else ⊥) = sup σ (members e mem) := by
  rw [sup, members, Finset.sup_map]
  show Finset.univ.sup (fun p => if mem p then (σ (e p) : EReal) else ⊥) = _
  rw [Finset.sup_ite, Finset.sup_bot, sup_bot_eq]
  rfl

/-- The masked weights of a block, each times its node's value, summed. -/
theorem block_sum (m : EReal) :
    ∑ p : Fin B, Ideal.exp (if mem p then (σ (e p) : EReal) - m else ⊥) * x (e p) = wsum σ x (members e mem) m := by
  rw [wsum, members, Finset.sum_map, Finset.sum_filter]
  refine Finset.sum_congr rfl fun p _ => ?_
  by_cases h : mem p
  · rw [if_pos h, if_pos h]
  · rw [if_neg h, if_neg h, Ideal.exp_bot, zero_mul]

end Block

/-- A finite sum of real numbers is a real number. -/
theorem sum_real {κ : Type} (A : Finset κ) (f : κ → EReal) (h : ∀ k, ∃ r : ℝ, f k = r) : ∃ r : ℝ, ∑ k ∈ A, f k = r := by
  choose g hg using h
  exact ⟨∑ k ∈ A, g k, by rw [coe_sum]; exact Finset.sum_congr rfl fun k _ => hg k⟩

/-- The hyperbolic tangent of any extended real is a real number. -/
theorem tanh_real (y : EReal) : ∃ r : ℝ, Ideal.tanh y = r := by
  induction y with
  | bot => exact ⟨-1, by simp⟩
  | top => exact ⟨1, by simp⟩
  | coe r => exact ⟨Real.tanh r, rfl⟩

end Cert.Proof.Soft
-- ==== Proof.Spec.lean ====
module

public import proofs.«01_k».proof.Proof.Soft

/-! What the kernel and the reference compute, entry by entry, over the extended reals: a node's score, and from the pooled
rows a graph's context row. -/

@[expose] public section

noncomputable section

namespace Cert.Proof.Spec

open Idealize.ShloMosaic

/-- The score of a node with features `row`. -/
def score (row : Fin 128 → EReal) (W1 : Fin 128 → Fin 64 → EReal) (b1 : Fin 64 → EReal) (W2 : Fin 64 → EReal) (b2 : EReal) : EReal :=
  ∑ k : Fin 64, Ideal.tanh (∑ j : Fin 128, row j * W1 j k + b1 k) * W2 k + b2

/-- A node's score is a real number when the score layer's weights and bias are, whatever the features. -/
theorem score_real (row : Fin 128 → EReal) (W1 : Fin 128 → Fin 64 → EReal) (b1 : Fin 64 → EReal) (W2 : Fin 64 → EReal) (b2 : EReal)
    (hW : ∀ k, W2 k ≠ ⊤ ∧ W2 k ≠ ⊥) (hb : b2 ≠ ⊤ ∧ b2 ≠ ⊥) : ∃ r : ℝ, score row W1 b1 W2 b2 = r := by
  obtain ⟨s, hs⟩ := Soft.sum_real Finset.univ (fun k : Fin 64 => Ideal.tanh (∑ j : Fin 128, row j * W1 j k + b1 k) * W2 k) fun k => by
    obtain ⟨t, ht⟩ := Soft.tanh_real (∑ j : Fin 128, row j * W1 j k + b1 k)
    exact ⟨t * (W2 k).toReal, by rw [ht, EReal.coe_mul, EReal.coe_toReal (hW k).1 (hW k).2]⟩
  exact ⟨s + b2.toReal, by rw [score, hs, EReal.coe_add, EReal.coe_toReal hb.1 hb.2]⟩

end Cert.Proof.Spec
-- ==== Proof.KIPay.lean ====
module

public import proofs.«01_k».proof.Proof.KIBody
public import Idealize.ShloMosaic.Lib.Pointwise
public import proofs.«01_k».proof.Proof.Spec

/-! One point of the TensorCore call over the extended reals, entry by entry: the running maximum, the running sum of weights
and the running weighted sum, from the point's block of nodes; and what the last point writes. -/

@[expose] public section

set_option maxRecDepth 16384

noncomputable section

namespace Cert.Proof.KI

open Cert.KernelIdeal Cert.KernelIdeal.Gen
open Idealize.ShloMosaic

/-- The kernel's mask value stands for minus infinity. -/
theorem neg_eq : (Named.named (F := Ideal) (φ := .f32) κ "neg" 0xF149F2CA#32) = (⊥ : EReal) := rfl

theorem ninf_eq : Ideal.ofBits .f32 0xFF800000#32 = (⊥ : EReal) := by simp [Ideal.ofBits, Ideal.ieee]

/-- A select on an equality of words is the conditional. -/
theorem select_eq_word (a b : BitVec 32) (u v : EReal) : Scalar.select (IntOp.cmpi .eq a b) u v = if a = b then u else v := by
  by_cases h : a = b
  · subst h; simp [Scalar.select, IntOp.cmpi]
  · have hb : (a == b) = false := by simpa using h
    simp [Scalar.select, IntOp.cmpi, hb, h]

variable (x1 : FVec Ideal S2000x128 .f32) (x2 : Vec Ideal S1x1x2000 .i32) (x3 : FVec Ideal S128x64 .f32) (x4 : FVec Ideal S1x64 .f32)
  (x5 : FVec Ideal S64x1 .f32) (x6 : FVec Ideal S1x1 .f32) (mx dn : FVec Ideal S128x1 .f32) (ac : FVec Ideal S128x128 .f32)

/-- The score of the block's node `p`. -/
def bscore (p : Fin 2000) : EReal :=
  Spec.score (fun j => x1 (ix2 p j)) (fun j k => x3 (ix2 j k)) (fun k => x4 (ix2 0 k)) (fun k => x5 (ix2 k 0)) (x6 (ix2 0 0))

/-- Node `p` of the block lies in graph `g`. -/
abbrev bmem (g : Fin 128) (p : Fin 2000) : Prop := BitVec.ofNat 32 g.val = x2 (ix3 0 0 p)

theorem pay9_apply (p : Fin 2000) : k0_pay9 (F := Ideal) x1 x3 x4 x5 x6 (ix2 0 p) = bscore x1 x3 x4 x5 x6 p := by
  unfold bscore Spec.score
  pointwise [k0_pay9]
  refine congrArg₂ _ (Finset.sum_congr rfl fun k _ => ?_) rfl
  exact mul_comm _ _

theorem pay10_apply (g : Fin 128) (p : Fin 2000) : k0_pay10 (F := Ideal) x2 (ix2 g p) = IntOp.cmpi .eq (BitVec.ofNat 32 g.val) (x2 (ix3 0 0 p)) := by
  pointwise [k0_pay10]

theorem stM_apply (g : Fin 128) : stM (F := Ideal) x1 x2 x3 x4 x5 x6 mx (ix2 g 0)
    = max (mx (ix2 g 0)) (Finset.univ.fold max ⊥ fun p : Fin 2000 => if bmem x2 g p then bscore x1 x3 x4 x5 x6 p else ⊥) := by
  unfold stM
  pointwise [k0_pay4, k0_pay11]
  simp only [pay9_apply, pay10_apply, select_eq_word, neg_eq, ninf_eq]

theorem pay11_apply (g : Fin 128) : k0_pay11 (F := Ideal) x1 x2 x3 x4 x5 x6 mx (ix2 g 0) = stM (F := Ideal) x1 x2 x3 x4 x5 x6 mx (ix2 g 0) := by
  unfold stM
  pointwise [k0_pay4]

theorem stD_apply (g : Fin 128) : stD (F := Ideal) x1 x2 x3 x4 x5 x6 mx dn (ix2 g 0)
    = dn (ix2 g 0) * Ideal.exp (mx (ix2 g 0) - stM (F := Ideal) x1 x2 x3 x4 x5 x6 mx (ix2 g 0))
      + ∑ p : Fin 2000, Ideal.exp (if bmem x2 g p then bscore x1 x3 x4 x5 x6 p - stM (F := Ideal) x1 x2 x3 x4 x5 x6 mx (ix2 g 0) else ⊥) := by
  unfold stD
  pointwise [k0_pay2, k0_pay1, k0_pay12, k0_pay13, k0_pay14]
  simp only [pay9_apply, pay10_apply, pay11_apply, select_eq_word, neg_eq]

theorem stS_apply (g k : Fin 128) : stS (F := Ideal) x1 x2 x3 x4 x5 x6 mx ac (ix2 g k)
    = ac (ix2 g k) * Ideal.exp (mx (ix2 g 0) - stM (F := Ideal) x1 x2 x3 x4 x5 x6 mx (ix2 g 0))
      + ∑ p : Fin 2000, Ideal.exp (if bmem x2 g p then bscore x1 x3 x4 x5 x6 p - stM (F := Ideal) x1 x2 x3 x4 x5 x6 mx (ix2 g 0) else ⊥)
          * x1 (ix2 p k) := by
  unfold stS
  pointwise [k0_pay3, k0_pay1, k0_pay12, k0_pay13, k0_pay14]
  simp only [pay9_apply, pay10_apply, pay11_apply, select_eq_word, neg_eq]

theorem pay5_apply (w : Vec Ideal S128x128 .f32) (b : Vec Ideal S1x128 .f32) (g k : Fin 128) : k0_pay5 (F := Ideal) dn ac w b (ix2 g k)
    = ∑ j : Fin 128, ac (ix2 g j) * Ideal.div 1 (if 0 < dn (ix2 g 0) then dn (ix2 g 0) else 1) * w (ix2 j k) + b (ix2 0 k) := by
  pointwise [k0_pay5]

theorem pay6_apply (g : Fin 128) : k0_pay6 (F := Ideal) (ix2 g 0) = (⊥ : EReal) := by
  pointwise [k0_pay6]
  exact neg_eq

theorem pay7_apply (g : Fin 128) : k0_pay7 (F := Ideal) (ix2 g 0) = (0 : EReal) := by
  pointwise [k0_pay7]

theorem pay8_apply (g k : Fin 128) : k0_pay8 (F := Ideal) (ix2 g k) = (0 : EReal) := by
  pointwise [k0_pay8]

end Cert.Proof.KI
-- ==== Proof.KIBlk.lean ====
module

public import proofs.«01_k».proof.Proof.KIMain
public import proofs.«01_k».proof.Proof.KIPay
public import Idealize.ShloMosaic.Lib.Pointwise.IndexBridge

/-! The blocks that the TensorCore call reads, as parts of the launch's arrays: point `t` reads nodes `2000 t … 2000 t + 1999`
and the weights whole. -/

@[expose] public section

set_option maxRecDepth 16384

noncomputable section

namespace Cert.Proof.KI

open Cert.KernelIdeal Cert.KernelIdeal.Gen
open Idealize.ShloMosaic

variable (V : (c : Dev nD) → (b : Ref sig .tc) → Buf (Elt Ideal) ((c.tc : Thread nD τ).loc b)) (c : Dev nD)

theorem idx0 : ∀ t : Fin grid0.N, win0_0.index t 0 = t.val ∧ win0_0.index t 1 = 0 := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel

/-- Node `p` of point `t`'s block. -/
def node (t : Fin grid0.N) (p : Fin 2000) : Fin 100000 :=
  ⟨2000 * t.val + p.val, by have := t.isLt; have h : grid0.N = 50 := N50; omega⟩

theorem blk0 (t : Fin grid0.N) (p : Fin 2000) (j : Fin 128) :
    iblk V c 0 t (ix2 p j) = (V c main_arg0 : S100000x128.Idx → EReal) (ix2 (node t p) j) := by
  show (V c main_arg0 : S100000x128.Idx → EReal) (((cfg0.win 0).blk t).view.emb (ix2 p j)) = _
  congr 1
  funext a
  apply Fin.ext
  match a with
  | ⟨0, _⟩ => show win0_0.index t 0 * 2000 + 1 * p.val = 2000 * t.val + p.val; rw [(idx0 t).1]; omega
  | ⟨1, _⟩ => show win0_0.index t 1 * 128 + 1 * j.val = j.val; rw [(idx0 t).2]; omega

theorem blk1 (t : Fin grid0.N) (p : Fin 2000) :
    iblk V c 1 t (ix3 0 0 p) = (V c main_v0 : S50x1x2000.Idx → BitVec 32) (ix3 (t.cast N50) 0 p) := by
  show (V c main_v0 : S50x1x2000.Idx → BitVec 32) (((cfg0.win 1).blk t).view.emb (ix3 0 0 p)) = _
  congr 1
  funext a
  apply Fin.ext
  match a with
  | ⟨0, _⟩ => show win0_1.index t 0 * 1 + 1 * 0 = t.val; rw [(idx1 t).1]; omega
  | ⟨1, _⟩ => show win0_1.index t 1 * 1 + 1 * 0 = 0; rw [(idx1 t).2.1]
  | ⟨2, _⟩ => show win0_1.index t 2 * 2000 + 1 * p.val = p.val; rw [(idx1 t).2.2]; omega

theorem blk2 (t : Fin grid0.N) : (iblk V c 2 t : S128x64.Idx → EReal) = V c main_arg2 := by
  funext y
  show (V c main_arg2 : S128x64.Idx → EReal) (((cfg0.win 2).blk t).view.emb y) = _
  congr 1
  funext a
  apply Fin.ext
  match a with
  | ⟨0, _⟩ => show win0_2.index t 0 * 128 + 1 * (y 0).val = (y 0).val; rw [(idx2 t).1]; omega
  | ⟨1, _⟩ => show win0_2.index t 1 * 64 + 1 * (y 1).val = (y 1).val; rw [(idx2 t).2]; omega

theorem blk3 (t : Fin grid0.N) : (iblk V c 3 t : S1x64.Idx → EReal) = V c main_v1 := by
  funext y
  show (V c main_v1 : S1x64.Idx → EReal) (((cfg0.win 3).blk t).view.emb y) = _
  congr 1
  funext a
  apply Fin.ext
  match a with
  | ⟨0, _⟩ => show win0_3.index t 0 * 1 + 1 * (y 0).val = (y 0).val; rw [(idx3 t).1]; omega
  | ⟨1, _⟩ => show win0_3.index t 1 * 64 + 1 * (y 1).val = (y 1).val; rw [(idx3 t).2]; omega

theorem blk4 (t : Fin grid0.N) : (iblk V c 4 t : S64x1.Idx → EReal) = V c main_arg4 := by
  funext y
  show (V c main_arg4 : S64x1.Idx → EReal) (((cfg0.win 4).blk t).view.emb y) = _
  congr 1
  funext a
  apply Fin.ext
  match a with
  | ⟨0, _⟩ => show win0_4.index t 0 * 64 + 1 * (y 0).val = (y 0).val; rw [(idx4 t).1]; omega
  | ⟨1, _⟩ => show win0_4.index t 1 * 1 + 1 * (y 1).val = (y 1).val; rw [(idx4 t).2]; omega

theorem blk5 (t : Fin grid0.N) : (iblk V c 5 t : S1x1.Idx → EReal) = V c main_v2 := by
  funext y
  show (V c main_v2 : S1x1.Idx → EReal) (((cfg0.win 5).blk t).view.emb y) = _
  congr 1
  funext a
  apply Fin.ext
  match a with
  | ⟨0, _⟩ => show win0_5.index t 0 * 1 + 1 * (y 0).val = (y 0).val; rw [(idx5 t).1]; omega
  | ⟨1, _⟩ => show win0_5.index t 1 * 1 + 1 * (y 1).val = (y 1).val; rw [(idx5 t).2]; omega

theorem blk6 (t : Fin grid0.N) : (iblk V c 6 t : S128x128.Idx → EReal) = V c main_arg6 := by
  funext y
  show (V c main_arg6 : S128x128.Idx → EReal) (((cfg0.win 6).blk t).view.emb y) = _
  congr 1
  funext a
  apply Fin.ext
  match a with
  | ⟨0, _⟩ => show win0_6.index t 0 * 128 + 1 * (y 0).val = (y 0).val; rw [(idx6 t).1]; omega
  | ⟨1, _⟩ => show win0_6.index t 1 * 128 + 1 * (y 1).val = (y 1).val; rw [(idx6 t).2]; omega

theorem blk7 (t : Fin grid0.N) : (iblk V c 7 t : S1x128.Idx → EReal) = V c main_v3 := by
  funext y
  show (V c main_v3 : S1x128.Idx → EReal) (((cfg0.win 7).blk t).view.emb y) = _
  congr 1
  funext a
  apply Fin.ext
  match a with
  | ⟨0, _⟩ => show win0_7.index t 0 * 1 + 1 * (y 0).val = (y 0).val; rw [(idx7 t).1]; omega
  | ⟨1, _⟩ => show win0_7.index t 1 * 128 + 1 * (y 1).val = (y 1).val; rw [(idx7 t).2]; omega

/-! ## The arrays at the TensorCore call -/

variable (m : (ℓ : Loc nD τ sig) → Buf (Elt Ideal) ℓ)

theorem R1_launch {r : Ref sig .tc} (hr : r ∉ [main_v0, main_v1, main_v2, main_v3]) : R1 m c r = m ((c.tc : Thread nD τ).loc r) :=
  V1_unwritten m c hr

theorem R1_v0 : R1 m c main_v0 = shapeCast S50x1x2000 (m ((c.tc : Thread nD τ).loc main_arg1)) shapeCasts_S100000_S50x1x2000 := by
  unfold R1 V1
  after_results_simp
  rfl
theorem R1_v1 : R1 m c main_v1 = shapeCast S1x64 (m ((c.tc : Thread nD τ).loc main_arg3)) shapeCasts_S64_S1x64 := by
  unfold R1 V1
  after_results_simp
  rfl
theorem R1_v2 : R1 m c main_v2 = shapeCast S1x1 (m ((c.tc : Thread nD τ).loc main_arg5)) shapeCasts_S1_S1x1 := by
  unfold R1 V1
  after_results_simp
  rfl
theorem R1_v3 : R1 m c main_v3 = shapeCast S1x128 (m ((c.tc : Thread nD τ).loc main_arg7)) shapeCasts_S128_S1x128 := by
  unfold R1 V1
  after_results_simp
  rfl

end Cert.Proof.KI
-- ==== Proof.Pool.lean ====
module

public import proofs.«01_k».proof.Proof.Spec

/-! The graphs as sets of nodes, and a graph's context row: the nodes' features pooled with the weights of a softmax over the
graph, then the last layer. -/

@[expose] public section

noncomputable section

namespace Cert.Proof.Spec

open Idealize.ShloMosaic

variable (ids : Fin 100000 → BitVec 32)

/-- The nodes of graph `g`. -/
def graph (g : Fin 128) : Finset (Fin 100000) := Finset.univ.filter fun n => BitVec.ofNat 32 g.val = ids n

/-- The nodes of graph `g` among the first `2000 n`. -/
def front (g : Fin 128) (n : ℕ) : Finset (Fin 100000) := Finset.univ.filter fun i => i.val < 2000 * n ∧ BitVec.ofNat 32 g.val = ids i

theorem front_zero (g : Fin 128) : front ids g 0 = ∅ := by
  ext i
  simp [front]

theorem front_all (g : Fin 128) : front ids g 50 = graph ids g := by
  ext i
  have := i.isLt
  simp only [front, graph, Finset.mem_filter, Finset.mem_univ, true_and]
  exact ⟨fun h => h.2, fun h => ⟨by omega, h⟩⟩

/-- A graph's context row. -/
def context (σ : Fin 100000 → ℝ) (x : Fin 100000 → Fin 128 → EReal) (W : Fin 128 → Fin 128 → EReal) (b : Fin 128 → EReal) (g k : Fin 128) : EReal :=
  ∑ j : Fin 128, (∑ n ∈ graph ids g, x n j * Ideal.div (Ideal.exp ((σ n : EReal) - Soft.sup σ (graph ids g)))
    (Soft.wsum σ (fun _ => 1) (graph ids g) (Soft.sup σ (graph ids g)))) * W j k + b k

end Cert.Proof.Spec
-- ==== Proof.KIVal.lean ====
module

public import proofs.«01_k».proof.Proof.KIBlk
public import proofs.«01_k».proof.Proof.Pool

/-! What the TensorCore call leaves: after point `n` the running values are the graphs' greatest scores, sums of weights and
weighted sums over the first `2000 (n + 1)` nodes, and the last point writes each graph's context row. -/

@[expose] public section

set_option maxRecDepth 16384

noncomputable section

namespace Cert.Proof.KI

open Cert.KernelIdeal Cert.KernelIdeal.Gen
open Idealize.ShloMosaic

/-- A block's nodes among all nodes. -/
def nodeEmb (t : Fin grid0.N) : Fin 2000 ↪ Fin 100000 := ⟨node t, fun p q h => Fin.ext (by
  have := congrArg Fin.val h
  simp only [node] at this
  omega)⟩

variable (V : (c : Dev nD) → (b : Ref sig .tc) → Buf (Elt Ideal) ((c.tc : Thread nD τ).loc b)) (c : Dev nD)
variable (ids : Fin 100000 → BitVec 32) (σ : Fin 100000 → ℝ) (x : Fin 100000 → Fin 128 → EReal)

/-- The arrays at the call hold the nodes' features, their graphs and weights that give them the scores `σ`. -/
structure Holds : Prop where
  feat : ∀ n j, (V c main_arg0 : S100000x128.Idx → EReal) (ix2 n j) = x n j
  word : ∀ t p, (V c main_v0 : S50x1x2000.Idx → BitVec 32) (ix3 (Fin.cast N50 t) 0 p) = ids (node t p)
  gate : ∀ n, Spec.score (x n) (fun j k => (V c main_arg2 : S128x64.Idx → EReal) (ix2 j k)) (fun k => (V c main_v1 : S1x64.Idx → EReal) (ix2 0 k))
    (fun k => (V c main_arg4 : S64x1.Idx → EReal) (ix2 k 0)) ((V c main_v2 : S1x1.Idx → EReal) (ix2 0 0)) = σ n

variable {V c ids σ x} (H : Holds V c ids σ x)
include H

theorem bscore_blk (t : Fin grid0.N) (p : Fin 2000) :
    bscore (iblk V c 0 t) (iblk V c 2 t) (iblk V c 3 t) (iblk V c 4 t) (iblk V c 5 t) p = σ (nodeEmb t p) := by
  refine Eq.trans ?_ (H.gate (node t p))
  unfold bscore
  congr 1
  · funext j; exact (blk0 V c t p j).trans (H.feat _ _)
  · funext j k; exact congrFun (blk2 V c t) _
  · funext k; exact congrFun (blk3 V c t) _
  · funext k; exact congrFun (blk4 V c t) _
  · exact congrFun (blk5 V c t) _

theorem bmem_blk (t : Fin grid0.N) (g : Fin 128) (p : Fin 2000) : bmem (iblk V c 1 t) g p ↔ BitVec.ofNat 32 g.val = ids (node t p) := by
  unfold bmem
  rw [blk1 V c t p, H.word]

theorem members_blk (t : Fin grid0.N) (g : Fin 128) (n : Fin 100000) :
    n ∈ Soft.members (nodeEmb t) (fun p => bmem (iblk V c 1 t) g p) ↔ (2000 * t.val ≤ n.val ∧ n.val < 2000 * (t.val + 1)) ∧ BitVec.ofNat 32 g.val = ids n := by
  simp only [Soft.members, Finset.mem_map, Finset.mem_filter, Finset.mem_univ, true_and, bmem_blk H]
  constructor
  · rintro ⟨p, hp, rfl⟩
    refine ⟨⟨?_, ?_⟩, hp⟩
    · show 2000 * t.val ≤ 2000 * t.val + p.val; omega
    · show 2000 * t.val + p.val < _; have := p.isLt; omega
  · rintro ⟨⟨h1, h2⟩, h3⟩
    have e : node t ⟨n.val - 2000 * t.val, by omega⟩ = n := Fin.ext (by show 2000 * t.val + (n.val - 2000 * t.val) = n.val; omega)
    exact ⟨⟨n.val - 2000 * t.val, by omega⟩, by rw [e]; exact h3, e⟩

theorem front_succ (t : Fin grid0.N) (g : Fin 128) :
    Spec.front ids g t.val ∪ Soft.members (nodeEmb t) (fun p => bmem (iblk V c 1 t) g p) = Spec.front ids g (t.val + 1) := by
  ext n
  rw [Finset.mem_union, members_blk H]
  simp only [Spec.front, Finset.mem_filter, Finset.mem_univ, true_and]
  constructor
  · rintro (⟨h1, h2⟩ | ⟨⟨h1, h2⟩, h3⟩)
    · exact ⟨by omega, h2⟩
    · exact ⟨h2, h3⟩
  · rintro ⟨h1, h2⟩
    by_cases h : n.val < 2000 * t.val
    · exact .inl ⟨h, h2⟩
    · exact .inr ⟨⟨by omega, h1⟩, h2⟩

theorem front_disjoint (t : Fin grid0.N) (g : Fin 128) :
    Disjoint (Spec.front ids g t.val) (Soft.members (nodeEmb t) (fun p => bmem (iblk V c 1 t) g p)) := by
  rw [Finset.disjoint_left]
  intro n h1 h2
  rw [members_blk H] at h2
  simp only [Spec.front, Finset.mem_filter, Finset.mem_univ, true_and] at h1
  omega

omit H in
variable (ids σ x) in
/-- The running values after the first `2000 n` nodes. -/
structure At (n : ℕ) (a : Acc Ideal) : Prop where
  mx : ∀ g : Fin 128, a.mx (ix2 g 0) = Soft.sup σ (Spec.front ids g n)
  dn : ∀ g : Fin 128, a.dn (ix2 g 0) = Soft.wsum σ (fun _ => 1) (Spec.front ids g n) (Soft.sup σ (Spec.front ids g n))
  ac : ∀ g k : Fin 128, a.ac (ix2 g k) = Soft.wsum σ (fun i => x i k) (Spec.front ids g n) (Soft.sup σ (Spec.front ids g n))

omit H in
theorem at_zero : At ids σ x 0 acc₀ where
  mx g := by rw [Spec.front_zero]; exact (pay6_apply g).trans (by simp [Soft.sup])
  dn g := by rw [Spec.front_zero]; exact (pay7_apply g).trans (by simp [Soft.wsum])
  ac g k := by rw [Spec.front_zero]; exact (pay8_apply g k).trans (by simp [Soft.wsum])

theorem stM_at (t : Fin grid0.N) (a : Acc Ideal) (h : At ids σ x t.val a) (g : Fin 128) :
    stM (F := Ideal) (iblk V c 0 t) (iblk V c 1 t) (iblk V c 2 t) (iblk V c 3 t) (iblk V c 4 t) (iblk V c 5 t) a.mx (ix2 g 0)
      = max (Soft.sup σ (Spec.front ids g t.val)) (Soft.sup σ (Soft.members (nodeEmb t) fun p => bmem (iblk V c 1 t) g p)) := by
  rw [stM_apply, h.mx g]
  refine congrArg _ ?_
  rw [← Soft.block_max]
  refine congrArg (fun f => Finset.fold max ⊥ f Finset.univ) (funext fun p => ?_)
  rw [bscore_blk H]

theorem at_step (t : Fin grid0.N) (a : Acc Ideal) (h : At ids σ x t.val a) : At ids σ x (t.val + 1) (step V c t a) where
  mx g := by
    refine (stM_at H t a h g).trans ?_
    rw [← Soft.sup_union, front_succ H]
  dn g := by
    refine (stD_apply _ _ _ _ _ _ _ _ g).trans ?_
    rw [stM_at H t a h g, h.mx g, h.dn g, ← front_succ H, ← Soft.step σ _ _ _ (front_disjoint H t g), ← Soft.block_sum]
    refine congrArg _ (Finset.sum_congr rfl fun p _ => ?_)
    rw [bscore_blk H, mul_one]
  ac g k := by
    refine (stS_apply _ _ _ _ _ _ _ _ g k).trans ?_
    rw [stM_at H t a h g, h.mx g, h.ac g k, ← front_succ H, ← Soft.step σ _ _ _ (front_disjoint H t g), ← Soft.block_sum]
    refine congrArg _ (Finset.sum_congr rfl fun p _ => ?_)
    rw [bscore_blk H, blk0 V c t p k, H.feat]
    rfl

theorem at_accAt : ∀ (n : ℕ) (hn : n < cfg0.N), At ids σ x (n + 1) (accAt V c n hn)
  | 0, hn => at_step H ⟨0, hn⟩ acc₀ at_zero
  | n + 1, hn => at_step H ⟨n + 1, hn⟩ _ (at_accAt n (Nat.lt_of_succ_lt hn))

theorem stats_apply (g k : Fin 128) (hg : (Spec.graph ids g).Nonempty) :
    (stats V c : S128x128.Idx → EReal) (ix2 g k)
      = Spec.context ids σ x (fun j k => (V c main_arg6 : S128x128.Idx → EReal) (ix2 j k)) (fun k => (V c main_v3 : S1x128.Idx → EReal) (ix2 0 k)) g k := by
  have h : At ids σ x 50 (accAt V c 49 (by decide)) := at_accAt H 49 _
  refine (pay5_apply _ _ _ _ g k).trans ?_
  unfold Spec.context
  refine congrArg₂ _ (Finset.sum_congr rfl fun j _ => ?_) (congrFun (blk7 V c tLast) _)
  refine congrArg₂ _ ?_ (congrFun (blk6 V c tLast) _)
  have hd := h.dn g
  have ha := h.ac g j
  rw [Spec.front_all] at hd ha
  show (accAt V c 49 _).ac (ix2 g j) * Ideal.div 1 (if 0 < (accAt V c 49 _).dn (ix2 g 0) then (accAt V c 49 _).dn (ix2 g 0) else 1) = _
  rw [ha, Soft.pooled σ _ _ hg _ hd, hd]

end Cert.Proof.KI
-- ==== Proof.KIOut.lean ====
module

public import proofs.«01_k».proof.Proof.KIVal
public import Idealize.ShloMosaic.Lib.Routing.OpsSet
public import Idealize.ShloMosaic.Lib.Routing.OpsPair

/-! The kernel's result, entry by entry: node `n` receives the context row of its graph. -/

@[expose] public section

set_option maxRecDepth 16384

noncomputable section

namespace Cert.Proof.KI

open Cert.KernelIdeal Cert.KernelIdeal.Gen
open Idealize.ShloMosaic

theorem pad_lands (idx : IVec S1 32) (h : ∀ i, idx i = 0#32) (k : S1250x80.Idx) (r : Fin 1280) (q : Fin 80) :
    scatter_S1280x80_S1_S1250x80_01_n_0_0.resultIdx? k idx = some (ValueIdx.ix2 r q) ↔ (k 0).val = r.val ∧ (k 1).val = q.val := by
  rw [Routing.resultIdx?_ix2]
  have hs : scatter_S1280x80_S1_S1250x80_01_n_0_0.start k idx 0 = 0 := by
    show (idx _).toInt = _
    rw [h]
    rfl
  have hs1 : scatter_S1280x80_S1_S1250x80_01_n_0_0.start k idx 1 = 0 := rfl
  have hw : scatter_S1280x80_S1_S1250x80_01_n_0_0.window k 0 = (k 0).val := rfl
  have hw1 : scatter_S1280x80_S1_S1250x80_01_n_0_0.window k 1 = (k 1).val := rfl
  rw [hs, hs1, hw, hw1]
  constructor
  · rintro ⟨a, b⟩; exact ⟨by omega, by omega⟩
  · rintro ⟨a, b⟩; exact ⟨by omega, by omega⟩

/-- The padded graph numbers hold node `n`'s at row `n / 80`, column `n % 80`. -/
theorem padded_apply (b : S100000.Idx → BitVec 32) (n : Fin 100000) :
    padded b (ValueIdx.ix2 (n0 := 1280) (n1 := 80) ⟨n.val / 80, by have := n.isLt; omega⟩ ⟨n.val % 80, by omega⟩) = b (ix1 n) := by
  have hr : n.val / 80 < 1250 := by have := n.isLt; omega
  have hz : ∀ i, (broadcastInDim S1 ![] bcast_S_S1 (constantI S_ 32 0#32)) i = 0#32 := fun _ => rfl
  have hb : shapeCast S1250x80 b shapeCasts_S100000_S1250x80 (ValueIdx.ix2 (n0 := 1250) (n1 := 80) ⟨n.val / 80, hr⟩ ⟨n.val % 80, by omega⟩) = b (ix1 n) := by
    rw [ix1_eq_valueIdx]
    refine Routing.cast12 b shapeCasts_S100000_S1250x80 _ _ n ?_
    show n.val = n.val / 80 * 80 + n.val % 80
    omega
  refine Routing.scatter_set_hit scatter_S1280x80_S1_S1250x80_01_n_0_0 _ _ _ _ _ (fun k hk => ?_)
    (ValueIdx.ix2 (n0 := 1250) (n1 := 80) ⟨n.val / 80, hr⟩ ⟨n.val % 80, by omega⟩) ((pad_lands _ hz _ _ _).2 ⟨rfl, rfl⟩)
  obtain ⟨e0, e1⟩ := (pad_lands _ hz _ _ _).1 hk
  rw [← hb]
  refine congrArg _ (funext fun a => Fin.ext ?_)
  match a with
  | ⟨0, _⟩ => exact e0
  | ⟨1, _⟩ => exact e1

variable (m : (ℓ : Loc nD τ sig) → Buf (Elt Ideal) ℓ)

theorem outVal_apply (hpre : PreOK m) (d : Dev nD) (n : Fin 100000) (k g : Fin 128) (hg : ids m d (ix1 n) = BitVec.ofNat 32 g.val) :
    outVal m hpre d (ix2 n k) = (stats (R1 m) d : S128x128.Idx → EReal) (ix2 g k) := by
  have e : gRow (F := Ideal) (kc m hpre d).iv (ix2 n k) = g := by
    rw [kc_iv]
    apply Fin.ext
    show (padded (ids m d) (ValueIdx.ix2 (n0 := 1280) (n1 := 80) ⟨n.val / 80, _⟩ ⟨n.val % 80, _⟩)).toNat % 128 = g.val
    rw [padded_apply, hg, BitVec.toNat_ofNat]
    have := g.isLt
    omega
  show (stats (R1 m) d : S128x128.Idx → EReal) (ValueIdx.ix2 (gRow (F := Ideal) (kc m hpre d).iv (ix2 n k)) k) = _
  rw [e, ix2_eq_valueIdx]

variable (c : Dev nD) (σ : Fin 100000 → ℝ)

/-- The launch's arrays, named by the values they hold. -/
theorem holds_launch
    (hσ : ∀ n : Fin 100000, Spec.score (fun j => (m ((c.tc : Thread nD τ).loc main_arg0) : S100000x128.Idx → EReal) (ix2 n j))
      (fun j k => (m ((c.tc : Thread nD τ).loc main_arg2) : S128x64.Idx → EReal) (ix2 j k)) (fun k => (m ((c.tc : Thread nD τ).loc main_arg3) : S64.Idx → EReal) (ix1 k))
      (fun k => (m ((c.tc : Thread nD τ).loc main_arg4) : S64x1.Idx → EReal) (ix2 k 0)) ((m ((c.tc : Thread nD τ).loc main_arg5) : S1.Idx → EReal) (ix1 0)) = σ n) :
    Holds (R1 m) c (fun n => ids m c (ix1 n)) σ (fun n j => (m ((c.tc : Thread nD τ).loc main_arg0) : S100000x128.Idx → EReal) (ix2 n j)) where
  feat n j := congrFun (R1_launch c m (r := main_arg0) (by decide)) (ix2 n j)
  word t p := by
    rw [R1_v0]
    rw [ix3_eq_valueIdx, ix1_eq_valueIdx]
    refine Routing.cast13 _ shapeCasts_S100000_S50x1x2000 _ _ _ _ ?_
    show 2000 * t.val + p.val = (t.val * 1 + 0) * 2000 + p.val
    omega
  gate n := by
    rw [← hσ n, R1_launch c m (r := main_arg2) (by decide), R1_launch c m (r := main_arg4) (by decide), R1_v1, R1_v2]
    congr 1
    · funext k
      rw [ix2_eq_valueIdx, ix1_eq_valueIdx]
      exact Routing.cast12 _ shapeCasts_S64_S1x64 _ _ _ (by show k.val = 0 * 64 + k.val; omega)
    · rw [ix2_eq_valueIdx, ix1_eq_valueIdx]
      exact Routing.cast12 _ shapeCasts_S1_S1x1 _ _ _ rfl

theorem out_apply (hpre : PreOK m)
    (hσ : ∀ n : Fin 100000, Spec.score (fun j => (m ((c.tc : Thread nD τ).loc main_arg0) : S100000x128.Idx → EReal) (ix2 n j))
      (fun j k => (m ((c.tc : Thread nD τ).loc main_arg2) : S128x64.Idx → EReal) (ix2 j k)) (fun k => (m ((c.tc : Thread nD τ).loc main_arg3) : S64.Idx → EReal) (ix1 k))
      (fun k => (m ((c.tc : Thread nD τ).loc main_arg4) : S64x1.Idx → EReal) (ix2 k 0)) ((m ((c.tc : Thread nD τ).loc main_arg5) : S1.Idx → EReal) (ix1 0)) = σ n)
    (n : Fin 100000) (k g : Fin 128) (hg : ids m c (ix1 n) = BitVec.ofNat 32 g.val) :
    outVal m hpre c (ix2 n k)
      = Spec.context (fun n => ids m c (ix1 n)) σ (fun n j => (m ((c.tc : Thread nD τ).loc main_arg0) : S100000x128.Idx → EReal) (ix2 n j))
        (fun j k => (m ((c.tc : Thread nD τ).loc main_arg6) : S128x128.Idx → EReal) (ix2 j k)) (fun k => (m ((c.tc : Thread nD τ).loc main_arg7) : S128.Idx → EReal) (ix1 k)) g k := by
  rw [outVal_apply m hpre c n k g hg,
    stats_apply (holds_launch m c σ hσ) g k ⟨n, Finset.mem_filter.2 ⟨Finset.mem_univ _, hg.symm⟩⟩]
  rw [R1_launch c m (r := main_arg6) (by decide), R1_v3]
  congr 1
  funext k
  rw [ix2_eq_valueIdx, ix1_eq_valueIdx]
  exact Routing.cast12 _ shapeCasts_S128_S1x128 _ _ _ (by show k.val = 0 * 128 + k.val; omega)

end Cert.Proof.KI
-- ==== Proof.RefVal.lean ====
module

public import proofs.«01_k».proof.Proof.Gen.ReferenceIdeal
public import proofs.«01_k».proof.Proof.Pool
public import Idealize.ShloMosaic.Lib.Pointwise
public import Idealize.ShloMosaic.Lib.Pointwise.IndexBridge
public import Idealize.ShloMosaic.Lib.Routing.OpsSet
public import Idealize.ShloMosaic.Lib.Routing.OpsPair

/-! The reference's value, entry by entry: node `n` receives the context row of its graph. -/

@[expose] public section

set_option maxRecDepth 16384

noncomputable section

namespace Cert.Proof.Ref

open Cert.ReferenceIdeal Cert.ReferenceIdeal.Gen
open Idealize.ShloMosaic

theorem ninf_eq : Ideal.ofBits .f32 0xFF800000#32 = (⊥ : EReal) := by simp [Ideal.ofBits, Ideal.ieee]

theorem select_eq_word (a b : BitVec 32) (u v : EReal) : Scalar.select (IntOp.cmpi .eq a b) u v = if a = b then u else v := by
  by_cases h : a = b
  · subst h; simp [Scalar.select, IntOp.cmpi]
  · have hb : (a == b) = false := by simpa using h
    simp [Scalar.select, IntOp.cmpi, hb, h]

/-! ## Where the updates land -/

variable (a1 : IVec S100000 32)

/-- The graph numbers as a column. -/
def col : IVec S100000x1 32 := broadcastInDim S100000x1 ![0] bcast_S100000_S100000x1_0 a1

theorem col_apply (n : Fin 100000) : col a1 (ix2 n 0) = a1 (ix1 n) := by
  pointwise [col]

/-- The graph numbers as a column, a negative one counted from the end. -/
def wrapped : IVec S100000x1 32 :=
  broadcastInDim S100000x1 ![0] bcast_S100000_S100000x1_0 (select (cmpi .slt a1 (broadcastInDim S100000 ![] bcast_S_S100000 (constantI S_ 32 0#32)))
    (addi a1 (broadcastInDim S100000 ![] bcast_S_S100000 (constantI S_ 32 128#32))) a1)

theorem wrapped_apply (n : Fin 100000) (g : Fin 128) (h : a1 (ix1 n) = BitVec.ofNat 32 g.val) : wrapped a1 (ix2 n 0) = BitVec.ofNat 32 g.val := by
  pointwise [wrapped]
  rw [h]
  refine Routing.wrap_of_lt _ _ ?_
  rw [BitVec.toNat_ofNat]
  have := g.isLt
  omega

theorem word_toInt (b : BitVec 32) (g : Fin 128) : b.toInt = (g.val : Int) ↔ BitVec.ofNat 32 g.val = b := by
  have := g.isLt
  have e : (BitVec.ofNat 32 g.val).toInt = (g.val : Int) := by
    rw [BitVec.toInt_ofNat']
    simp [Int.bmod]
    omega
  constructor
  · intro h; exact BitVec.eq_of_toInt_eq (e.trans h.symm)
  · rintro rfl; exact e

theorem lands1 (idx : IVec S100000x1 32) (n : Fin 100000) (g : Fin 128) :
    scatter_S128_S100000x1_S100000_n_0_0_1.resultIdx? (ix1 n) idx = some (ix1 g) ↔ (idx (ix2 n 0)).toInt = (g.val : Int) := by
  rw [Routing.resultIdx?_eq_some]
  have hs : scatter_S128_S100000x1_S100000_n_0_0_1.start (ix1 n) idx 0 = (idx (ix2 n 0)).toInt := by
    show (idx _).toInt = _
    refine congrArg (fun i => (idx i).toInt) (funext fun b => ?_)
    match b with
    | ⟨0, _⟩ => rfl
    | ⟨1, _⟩ => rfl
  have hw : scatter_S128_S100000x1_S100000_n_0_0_1.window (ix1 n) 0 = 0 := rfl
  constructor
  · intro h
    have := h 0
    rw [hs, hw] at this
    simpa using this
  · intro h a
    match a with
    | ⟨0, _⟩ =>
      show scatter_S128_S100000x1_S100000_n_0_0_1.start (ix1 n) idx 0 + ((scatter_S128_S100000x1_S100000_n_0_0_1.window (ix1 n) 0 : ℕ) : Int) = _
      rw [hs, hw]
      simpa using h

theorem lands2 (idx : IVec S100000x1 32) (n : Fin 100000) (j g k : Fin 128) :
    scatter_S128x128_S100000x1_S100000x128_1_0_0_1.resultIdx? (ix2 n j) idx = some (ix2 g k) ↔ (idx (ix2 n 0)).toInt = (g.val : Int) ∧ j = k := by
  rw [Routing.resultIdx?_eq_some]
  have hs : scatter_S128x128_S100000x1_S100000x128_1_0_0_1.start (ix2 n j) idx 0 = (idx (ix2 n 0)).toInt := by
    show (idx _).toInt = _
    refine congrArg (fun i => (idx i).toInt) (funext fun b => ?_)
    match b with
    | ⟨0, _⟩ => rfl
    | ⟨1, _⟩ => rfl
  have hs1 : scatter_S128x128_S100000x1_S100000x128_1_0_0_1.start (ix2 n j) idx 1 = 0 := rfl
  have hw : scatter_S128x128_S100000x1_S100000x128_1_0_0_1.window (ix2 n j) 0 = 0 := rfl
  have hw1 : scatter_S128x128_S100000x1_S100000x128_1_0_0_1.window (ix2 n j) 1 = j.val := rfl
  constructor
  · intro h
    have h0 := h 0
    have h1 := h 1
    rw [hs, hw] at h0
    rw [hs1, hw1] at h1
    refine ⟨by simpa using h0, Fin.ext ?_⟩
    have e : ((ix2 g k : S128x128.Idx) 1).val = k.val := rfl
    rw [e] at h1
    omega
  · rintro ⟨h, rfl⟩ a
    match a with
    | ⟨0, _⟩ =>
      show scatter_S128x128_S100000x1_S100000x128_1_0_0_1.start (ix2 n j) idx 0 + ((scatter_S128x128_S100000x1_S100000x128_1_0_0_1.window (ix2 n j) 0 : ℕ) : Int) = _
      rw [hs, hw]
      simpa using h
    | ⟨1, _⟩ =>
      show scatter_S128x128_S100000x1_S100000x128_1_0_0_1.start (ix2 n j) idx 1 + ((scatter_S128x128_S100000x1_S100000x128_1_0_0_1.window (ix2 n j) 1 : ℕ) : Int) = _
      rw [hs1, hw1]
      simp

theorem scatter1_apply (x : FVec Ideal S128 .f32) (u : FVec Ideal S100000 .f32) (g : Fin 128) :
    Host.scatterAdd (F := Ideal) scatter_S128_S100000x1_S100000_n_0_0_1 x (col a1) u (ix1 g)
      = x (ix1 g) + ∑ n ∈ Spec.graph (fun n => a1 (ix1 n)) g, u (ix1 n) := by
  show x (ix1 g) + ∑ i ∈ Finset.univ.filter (fun i => scatter_S128_S100000x1_S100000_n_0_0_1.resultIdx? i (col a1) = some (ix1 g)), u i = _
  refine congrArg _ (Finset.sum_bij' (fun i _ => (i 0 : Fin 100000)) (fun n _ => ix1 n) ?_ ?_ ?_ ?_ ?_)
  · intro i hi
    obtain ⟨n, rfl⟩ : ∃ n : Fin 100000, i = ix1 n := ⟨i 0, eq_ix1 i⟩
    rw [Finset.mem_filter, lands1, col_apply, word_toInt] at hi
    exact Finset.mem_filter.2 ⟨Finset.mem_univ _, hi.2⟩
  · intro n hn
    rw [Finset.mem_filter, lands1, col_apply, word_toInt]
    exact ⟨Finset.mem_univ _, (Finset.mem_filter.1 hn).2⟩
  · intro i _; exact (eq_ix1 i).symm
  · intro n _; rfl
  · intro i _; exact congrArg u (eq_ix1 i)

theorem scatter2_apply (x : FVec Ideal S128x128 .f32) (u : FVec Ideal S100000x128 .f32) (g k : Fin 128) :
    Host.scatterAdd (F := Ideal) scatter_S128x128_S100000x1_S100000x128_1_0_0_1 x (col a1) u (ix2 g k)
      = x (ix2 g k) + ∑ n ∈ Spec.graph (fun n => a1 (ix1 n)) g, u (ix2 n k) := by
  show x (ix2 g k) + ∑ i ∈ Finset.univ.filter (fun i => scatter_S128x128_S100000x1_S100000x128_1_0_0_1.resultIdx? i (col a1) = some (ix2 g k)), u i = _
  refine congrArg _ (Finset.sum_bij' (fun i _ => (i 0 : Fin 100000)) (fun n _ => ix2 n k) ?_ ?_ ?_ ?_ ?_)
  · intro i hi
    obtain ⟨n, j, rfl⟩ : ∃ (n : Fin 100000) (j : Fin 128), i = ix2 n j := ⟨i 0, i 1, eq_ix2 i⟩
    rw [Finset.mem_filter, lands2, col_apply, word_toInt] at hi
    exact Finset.mem_filter.2 ⟨Finset.mem_univ _, hi.2.1⟩
  · intro n hn
    rw [Finset.mem_filter, lands2, col_apply, word_toInt]
    exact ⟨Finset.mem_univ _, (Finset.mem_filter.1 hn).2, rfl⟩
  · intro i hi
    obtain ⟨n, j, rfl⟩ : ∃ (n : Fin 100000) (j : Fin 128), i = ix2 n j := ⟨i 0, i 1, eq_ix2 i⟩
    rw [Finset.mem_filter, lands2] at hi
    rw [hi.2.2]
    rfl
  · intro n _; rfl
  · intro i hi
    obtain ⟨n, j, rfl⟩ : ∃ (n : Fin 100000) (j : Fin 128), i = ix2 n j := ⟨i 0, i 1, eq_ix2 i⟩
    rw [Finset.mem_filter, lands2] at hi
    rw [hi.2.2]
    rfl

/-- A lookup of a graph's entry. -/
theorem gather1_apply {α : Type} (t : S128.Idx → α) (n : Fin 100000) (g : Fin 128) (h : a1 (ix1 n) = BitVec.ofNat 32 g.val) :
    Host.gather gather_S128_S100000x1_S100000_n_0_n_n_0_1_1 t (wrapped a1) (ix1 n) = t (ix1 g) := by
  have e := wrapped_apply a1 n g h
  rw [ix2_eq_valueIdx] at e
  rw [ix1_eq_valueIdx, ix1_eq_valueIdx]
  exact Routing.gather_take1 gather_S128_S100000x1_S100000_n_0_n_n_0_1_1 rfl rfl rfl rfl t (wrapped a1) n g e (by decide)

/-- A lookup of a graph's row. -/
theorem gather2_apply {α : Type} (t : S128x128.Idx → α) (n : Fin 100000) (k g : Fin 128) (h : a1 (ix1 n) = BitVec.ofNat 32 g.val) :
    Host.gather gather_S128x128_S100000x1_S100000x128_1_0_n_n_0_1_1128 t (wrapped a1) (ix2 n k) = t (ix2 g k) := by
  have e := wrapped_apply a1 n g h
  rw [ix2_eq_valueIdx] at e
  rw [ix2_eq_valueIdx, ix2_eq_valueIdx]
  exact Routing.gather_row gather_S128x128_S100000x1_S100000x128_1_0_n_n_0_1_1128 rfl rfl rfl rfl rfl t (wrapped a1) n k g e (by decide)

end Cert.Proof.Ref
-- ==== Proof.RefOut.lean ====
module

public import proofs.«01_k».proof.Proof.Gen.ReferenceIdeal.Run
public import proofs.«01_k».proof.Proof.RefVal

/-! The reference's result term, step by step, and its value at an entry. -/

@[expose] public section

set_option maxRecDepth 16384

noncomputable section

namespace Cert.Proof.Ref

open Cert.ReferenceIdeal Cert.ReferenceIdeal.Gen
open Idealize.ShloMosaic

variable (a0 : FVec Ideal S100000x128 .f32) (a1 : IVec S100000 32) (a2 : FVec Ideal S128x64 .f32) (a3 : FVec Ideal S64 .f32)
  (a4 : FVec Ideal S64x1 .f32) (a5 : FVec Ideal S1 .f32) (a6 : FVec Ideal S128x128 .f32) (a7 : FVec Ideal S128 .f32)

/-- The nodes' scores. -/
def scores : FVec Ideal S100000 .f32 :=
  shapeCast _ (addf (Host.dotGeneral dot_S100000x64_S64x1_S100000x1_1_0_0_1_n_n none (Host.tanh (addf (Host.dotGeneral dot_S100000x128_S128x64_S100000x64_1_0_0_1_n_n none a0 a2)
    (broadcastInDim S100000x64 ![0, 1] bcast_S1x64_S100000x64_0_1 (broadcastInDim S1x64 ![1] bcast_S64_S1x64_1 a3)))) a4)
    (broadcastInDim S100000x1 ![0, 1] bcast_S1x1_S100000x1_0_1 (broadcastInDim S1x1 ![1] bcast_S1_S1x1_1 a5))) shapeCasts_S100000x1_S100000

variable (s : FVec Ideal S100000 .f32)

/-- The graphs' greatest scores. -/
def tops : FVec Ideal S128 .f32 :=
  Host.reduce FloatOps.maximumf (select (cmpi .eq (broadcastInDim S128x100000 ![0, 1] bcast_S1x100000_S128x100000_0_1 (broadcastInDim S1x100000 ![1] bcast_S100000_S1x100000_1 a1))
    (broadcastInDim S128x100000 ![0, 1] bcast_S128x1_S128x100000_0_1 (broadcastInDim S128x1 ![0] bcast_S128_S128x1_0 (iotaInDim S128 32 0))))
    (broadcastInDim S128x100000 ![0, 1] bcast_S1x100000_S128x100000_0_1 (broadcastInDim S1x100000 ![1] bcast_S100000_S1x100000_1 s))
    (broadcastInDim S128x100000 ![] bcast_S_S128x100000 (id (constant S_ .f32 0xFF800000#32)))) (constant S_ .f32 0xFF800000#32) reducesTo_S128x100000_S128_d1 h_S_

/-- The nodes' exponentials. -/
def exps : FVec Ideal S100000 .f32 := Host.exp (subf s (Host.gather gather_S128_S100000x1_S100000_n_0_n_n_0_1_1 (tops a1 s) (wrapped a1)))

/-- The graphs' sums of exponentials. -/
def sums : FVec Ideal S128 .f32 :=
  Host.scatterAdd scatter_S128_S100000x1_S100000_n_0_0_1 (broadcastInDim S128 ![] bcast_S_S128 (constant S_ .f32 0x00000000#32)) (col a1) (exps a1 s)

/-- The nodes' weights. -/
def weights : FVec Ideal S100000 .f32 := Host.divf (exps a1 s) (Host.gather gather_S128_S100000x1_S100000_n_0_n_n_0_1_1 (sums a1 s) (wrapped a1))

/-- The graphs' weighted sums of features. -/
def pools : FVec Ideal S128x128 .f32 :=
  Host.scatterAdd scatter_S128x128_S100000x1_S100000x128_1_0_0_1 (broadcastInDim S128x128 ![] bcast_S_S128x128 (constant S_ .f32 0x00000000#32)) (col a1)
    (mulf a0 (broadcastInDim S100000x128 ![0, 1] bcast_S100000x1_S100000x128_0_1 (broadcastInDim S100000x1 ![0] bcast_S100000_S100000x1_0 (weights a1 s))))

/-- The graphs' context rows. -/
def rows : FVec Ideal S128x128 .f32 :=
  addf (Host.dotGeneral dot_S128x128_S128x128_S128x128_1_0_0_1_n_n none (pools a0 a1 s) a6)
    (broadcastInDim S128x128 ![0, 1] bcast_S1x128_S128x128_0_1 (broadcastInDim S1x128 ![1] bcast_S128_S1x128_1 a7))

theorem res_eq (m : (ℓ : Loc nD τ sig) → Buf (Elt Ideal) ℓ) (c : Dev nD) : Value.res_main_v55 (F := Ideal) m c
    = Host.gather gather_S128x128_S100000x1_S100000x128_1_0_n_n_0_1_1128
      (rows (m ((c.tc : Thread nD τ).loc main_arg0)) (m ((c.tc : Thread nD τ).loc main_arg1)) (m ((c.tc : Thread nD τ).loc main_arg6)) (m ((c.tc : Thread nD τ).loc main_arg7))
        (scores (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5))))
      (wrapped (m ((c.tc : Thread nD τ).loc main_arg1))) := rfl

theorem scores_apply (n : Fin 100000) : scores a0 a2 a3 a4 a5 (ix1 n)
    = Spec.score (fun j => a0 (ix2 n j)) (fun j k => a2 (ix2 j k)) (fun k => a3 (ix1 k)) (fun k => a4 (ix2 k 0)) (a5 (ix1 0)) := by
  unfold Spec.score
  pointwise [scores]

theorem divf_entry (u v : FVec Ideal S100000 .f32) (i : S100000.Idx) : Host.divf u v i = Ideal.div (u i) (v i) := rfl

variable {σ : Fin 100000 → ℝ} (hσ : ∀ n, s (ix1 n) = σ n)

theorem graph_sup (ids : Fin 100000 → BitVec 32) (g : Fin 128) : (Finset.univ : Finset (Fin 100000)).fold max ⊥
    (fun n => if ids n = BitVec.ofNat 32 g.val then (σ n : EReal) else ⊥) = Soft.sup σ (Spec.graph ids g) := by
  show Finset.univ.sup (fun n => if ids n = BitVec.ofNat 32 g.val then (σ n : EReal) else ⊥) = _
  rw [Finset.sup_ite, Finset.sup_bot, sup_bot_eq]
  unfold Soft.sup Spec.graph
  simp only [eq_comm]

include hσ

theorem tops_apply (g : Fin 128) : tops a1 s (ix1 g) = Soft.sup σ (Spec.graph (fun n => a1 (ix1 n)) g) := by
  rw [← graph_sup]
  have hi : (id (constant (F := Ideal) S_ .f32 0xFF800000#32) : FVec Ideal S_ .f32) ix0 = (⊥ : EReal) := ninf_eq
  pointwise [tops]
  simp only [select_eq_word, ninf_eq, hσ, hi]

theorem exps_apply (n : Fin 100000) (g : Fin 128) (h : a1 (ix1 n) = BitVec.ofNat 32 g.val) :
    exps a1 s (ix1 n) = Ideal.exp ((σ n : EReal) - Soft.sup σ (Spec.graph (fun n => a1 (ix1 n)) g)) := by
  show Ideal.exp (s (ix1 n) - Host.gather gather_S128_S100000x1_S100000_n_0_n_n_0_1_1 (tops a1 s) (wrapped a1) (ix1 n)) = _
  rw [gather1_apply a1 _ n g h, tops_apply a1 s hσ, hσ]

theorem sums_apply (g : Fin 128) : sums a1 s (ix1 g)
    = Soft.wsum σ (fun _ => 1) (Spec.graph (fun n => a1 (ix1 n)) g) (Soft.sup σ (Spec.graph (fun n => a1 (ix1 n)) g)) := by
  unfold sums
  rw [scatter1_apply]
  have h0 : (broadcastInDim S128 ![] bcast_S_S128 (constant (F := Ideal) S_ .f32 0x00000000#32)) (ix1 g) = (0 : EReal) := by
    pointwise []
  rw [h0, zero_add]
  refine Finset.sum_congr rfl fun n hn => ?_
  rw [exps_apply a1 s hσ n g (Finset.mem_filter.1 hn).2.symm, mul_one]

theorem weights_apply (n : Fin 100000) (g : Fin 128) (h : a1 (ix1 n) = BitVec.ofNat 32 g.val) : weights a1 s (ix1 n)
    = Ideal.div (Ideal.exp ((σ n : EReal) - Soft.sup σ (Spec.graph (fun n => a1 (ix1 n)) g)))
      (Soft.wsum σ (fun _ => 1) (Spec.graph (fun n => a1 (ix1 n)) g) (Soft.sup σ (Spec.graph (fun n => a1 (ix1 n)) g))) := by
  unfold weights
  rw [divf_entry, gather1_apply a1 _ n g h, exps_apply a1 s hσ n g h, sums_apply a1 s hσ]

theorem pools_apply (g j : Fin 128) : pools a0 a1 s (ix2 g j)
    = ∑ n ∈ Spec.graph (fun n => a1 (ix1 n)) g, a0 (ix2 n j) * Ideal.div (Ideal.exp ((σ n : EReal) - Soft.sup σ (Spec.graph (fun n => a1 (ix1 n)) g)))
      (Soft.wsum σ (fun _ => 1) (Spec.graph (fun n => a1 (ix1 n)) g) (Soft.sup σ (Spec.graph (fun n => a1 (ix1 n)) g))) := by
  unfold pools
  rw [scatter2_apply]
  have h0 : (broadcastInDim S128x128 ![] bcast_S_S128x128 (constant (F := Ideal) S_ .f32 0x00000000#32)) (ix2 g j) = (0 : EReal) := by
    pointwise []
  rw [h0, zero_add]
  refine Finset.sum_congr rfl fun n hn => ?_
  rw [← weights_apply a1 s hσ n g (Finset.mem_filter.1 hn).2.symm]
  pointwise []

theorem rows_apply (g k : Fin 128) : rows a0 a1 a6 a7 s (ix2 g k)
    = Spec.context (fun n => a1 (ix1 n)) σ (fun n j => a0 (ix2 n j)) (fun j k => a6 (ix2 j k)) (fun k => a7 (ix1 k)) g k := by
  unfold Spec.context
  simp only [← pools_apply a0 a1 s hσ]
  pointwise [rows]

end Cert.Proof.Ref
-- ==== Proof.Algebraic.lean ====
module

public import proofs.«01_k».proof.Proof.Frames
public import proofs.«01_k».proof.Proof.KIOut
public import proofs.«01_k».proof.Proof.RefOut

/-! The kernel and the reference leave the same array: at each node the context row of its graph. -/

@[expose] public section

set_option maxRecDepth 16384

noncomputable section

namespace Cert.Proof

open Idealize.ShloMosaic Idealize.SL.Sem

/-- A word below 128 is some graph's number. -/
theorem word_graph (b : BitVec 32) (h : b.toNat < 128) : ∃ g : Fin 128, b = BitVec.ofNat 32 g.val :=
  ⟨⟨b.toNat, h⟩, BitVec.eq_of_toNat_eq (by rw [BitVec.toNat_ofNat]; show b.toNat = b.toNat % _; omega)⟩

/-- The reference's result on arrays that give the nodes real scores. -/
theorem ref_apply (m : (ℓ : Loc Cert.ReferenceIdeal.nD Cert.ReferenceIdeal.τ Cert.ReferenceIdeal.sig) → Buf (Elt Ideal) ℓ) (c : Dev Cert.ReferenceIdeal.nD)
    (a0 : FVec Ideal Cert.ReferenceIdeal.S100000x128 .f32) (a1 : IVec Cert.ReferenceIdeal.S100000 32) (a2 : FVec Ideal Cert.ReferenceIdeal.S128x64 .f32)
    (a3 : FVec Ideal Cert.ReferenceIdeal.S64 .f32) (a4 : FVec Ideal Cert.ReferenceIdeal.S64x1 .f32) (a5 : FVec Ideal Cert.ReferenceIdeal.S1 .f32)
    (a6 : FVec Ideal Cert.ReferenceIdeal.S128x128 .f32) (a7 : FVec Ideal Cert.ReferenceIdeal.S128 .f32)
    (h0 : m ((c.tc : Thread _ _).loc Cert.ReferenceIdeal.main_arg0) = a0) (h1 : m ((c.tc : Thread _ _).loc Cert.ReferenceIdeal.main_arg1) = a1)
    (h2 : m ((c.tc : Thread _ _).loc Cert.ReferenceIdeal.main_arg2) = a2) (h3 : m ((c.tc : Thread _ _).loc Cert.ReferenceIdeal.main_arg3) = a3)
    (h4 : m ((c.tc : Thread _ _).loc Cert.ReferenceIdeal.main_arg4) = a4) (h5 : m ((c.tc : Thread _ _).loc Cert.ReferenceIdeal.main_arg5) = a5)
    (h6 : m ((c.tc : Thread _ _).loc Cert.ReferenceIdeal.main_arg6) = a6) (h7 : m ((c.tc : Thread _ _).loc Cert.ReferenceIdeal.main_arg7) = a7)
    (σ : Fin 100000 → ℝ)
    (hσ : ∀ n, Spec.score (fun j => a0 (ix2 n j)) (fun j k => a2 (ix2 j k)) (fun k => a3 (ix1 k)) (fun k => a4 (ix2 k 0)) (a5 (ix1 0)) = σ n)
    (n : Fin 100000) (k g : Fin 128) (hg : a1 (ix1 n) = BitVec.ofNat 32 g.val) :
    (Cert.ReferenceIdeal.Value.res_main_v55 (F := Ideal) m c : Cert.ReferenceIdeal.S100000x128.Idx → EReal) (ix2 n k)
      = Spec.context (fun n => a1 (ix1 n)) σ (fun n j => a0 (ix2 n j)) (fun j k => a6 (ix2 j k)) (fun k => a7 (ix1 k)) g k := by
  rw [Ref.res_eq m c, h0, h1, h2, h3, h4, h5, h6, h7]
  refine (Ref.gather2_apply a1 _ n k g hg).trans ?_
  exact Ref.rows_apply a0 a1 a6 a7 _ (fun n => (Ref.scores_apply a0 a2 a3 a4 a5 n).trans (hσ n)) g k

theorem algebraic : Cert.algebraic_KernelIdeal_ReferenceIdeal_pre_scores_finite := by
  intro m g m' g' hpre hagree
  refine ⟨KI.outVal (F := Ideal) m (preKI' m hpre),
    (θ_run Cert.KernelIdeal.defs _ _).mono (fun _ h => h.1) (KI.run (F := Ideal) m g (preKI' m hpre)), ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5, e6, e7⟩ := hagree c
  have tame := tameKI m hpre c
  choose σ hσ using fun n : Fin 100000 => Spec.score_real
    (fun j => (m ((c.tc : Thread _ _).loc Cert.KernelIdeal.main_arg0) : Cert.KernelIdeal.S100000x128.Idx → EReal) (ix2 n j))
    (fun j k => (m ((c.tc : Thread _ _).loc Cert.KernelIdeal.main_arg2) : Cert.KernelIdeal.S128x64.Idx → EReal) (ix2 j k))
    (fun k => (m ((c.tc : Thread _ _).loc Cert.KernelIdeal.main_arg3) : Cert.KernelIdeal.S64.Idx → EReal) (ix1 k))
    (fun k => (m ((c.tc : Thread _ _).loc Cert.KernelIdeal.main_arg4) : Cert.KernelIdeal.S64x1.Idx → EReal) (ix2 k 0))
    ((m ((c.tc : Thread _ _).loc Cert.KernelIdeal.main_arg5) : Cert.KernelIdeal.S1.Idx → EReal) (ix1 0))
    (fun k => tame.w (ix2 k 0)) (tame.b (ix1 0))
  funext x
  obtain ⟨n, k, rfl⟩ : ∃ (n : Fin 100000) (k : Fin 128), x = ix2 n k := ⟨x 0, x 1, eq_ix2 x⟩
  obtain ⟨gr, hg⟩ := word_graph _ (tame.ids (ix1 n))
  exact (ref_apply m' c _ _ _ _ _ _ _ _ e0 e1 e2 e3 e4 e5 e6 e7 σ hσ n k gr hg).trans
    (KI.out_apply m c σ (preKI' m hpre) hσ n k gr hg).symm

end Cert.Proof
-- ==== Proof.lean ====
module

public import proofs.«01_k».proof.Defs
public import proofs.«01_k».proof.Proof.Algebraic

/-! The claims assembled. -/

@[expose] public section

noncomputable section

namespace Cert.Proof

theorem claim : Cert.Claim := ⟨Cert.Kernel.Gen.facts, Cert.KernelIdeal.Gen.facts, Cert.ReferenceIdeal.Gen.facts,
  Cert.Pre_batch_in_graphs.Gen.facts, Cert.Pre_scores_finite.Gen.facts, frame_p, frame_pi, frame_pi', frame_ri, frame_ri',
  preserves, algebraic⟩

end Cert.Proof

end
